-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 512]⟩ ⟨2, ![2048, 512]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x512 : Shape := ⟨2, ![256, 512]⟩
abbrev S512x512 : Shape := ⟨2, ![512, 512]⟩
abbrev S7x64x256 : Shape := ⟨3, ![7, 64, 256]⟩
abbrev S14 : Shape := ⟨1, ![14]⟩
abbrev S_ : Shape := ⟨0, ![]⟩
abbrev S64x256 : Shape := ⟨2, ![64, 256]⟩
abbrev S64x512 : Shape := ⟨2, ![64, 512]⟩
abbrev S1 : Shape := ⟨1, ![1]⟩
abbrev S1x64x256 : Shape := ⟨3, ![1, 64, 256]⟩

abbrev nBuf : Space → Nat
  | .hbm => 3
  | .vmem => 5
  | .smem => 0
  | _ => 0

abbrev bufTy : (tb : Table) → Fin (tcTables nBuf tb) → BufTy
  | .hbm, ⟨0, _⟩ => ⟨S512x256, .f32⟩
  | .hbm, ⟨1, _⟩ => ⟨S256x512, .f32⟩
  | .hbm, ⟨2, _⟩ => ⟨S512x512, .f32⟩
  | .local _ .vmem, ⟨0, _⟩ => ⟨S512x256, .f32⟩
  | .local _ .vmem, ⟨1, _⟩ => ⟨S256x512, .f32⟩
  | .local _ .vmem, ⟨2, _⟩ => ⟨S512x512, .f32⟩
  | .local _ .vmem, ⟨3, _⟩ => ⟨S7x64x256, .f32⟩
  | .local _ .vmem, ⟨4, _⟩ => ⟨S7x64x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  (ofTc nBuf bufTy 1 59 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_mult1 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_63 : BitVec 32 := 1#32
  let v95 : BitVec 32 := Scalar.addi v2 c1_i32_63
  let c0_i32_64 : BitVec 32 := 0#32
  let v96 : BitVec 32 := Scalar.addi v95 c0_i32_64
  let c8_i32_65 : BitVec 32 := 8#32
  let c0_i32_66 : BitVec 32 := 0#32
  let v97 : BitVec 1 := Scalar.cmpi .eq c8_i32_65 c0_i32_66
  let c1_i32_67 : BitVec 32 := 1#32
  let v98 : BitVec 32 := Scalar.select v97 c1_i32_67 c8_i32_65
  let v99 : BitVec 32 := Scalar.remsi v96 v98
  let c0_i32_69 : BitVec 32 := 0#32
  let v101 : BitVec 1 := Scalar.cmpi .slt v99 c0_i32_69
  let c0_i32_70 : BitVec 32 := 0#32
  let v102 : BitVec 1 := Scalar.cmpi .slt v98 c0_i32_70
  let v103 : BitVec 1 := Scalar.xori v101 v102
  let c0_i32_68 : BitVec 32 := 0#32
  let v100 : BitVec 1 := Scalar.cmpi .ne v99 c0_i32_68
  let v104 : BitVec 1 := Scalar.andi v103 v100
  let v105 : BitVec 32 := Scalar.addi v99 v98
  let v106 : BitVec 32 := Scalar.select v104 v105 v99
  let c64_i32 : BitVec 32 := 64#32
  let v107 : BitVec 32 := Scalar.muli v106 c64_i32
  v107
def k0_off1 (d0 : Dev nD) (c0_i32_64 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_63 : BitVec 32 := 1#32
  let v95 : BitVec 32 := Scalar.addi v2 c1_i32_63
  let v96 : BitVec 32 := Scalar.addi v95 c0_i32_64
  let c8_i32_65 : BitVec 32 := 8#32
  let c0_i32_66 : BitVec 32 := 0#32
  let v97 : BitVec 1 := Scalar.cmpi .eq c8_i32_65 c0_i32_66
  let c1_i32_67 : BitVec 32 := 1#32
  let v98 : BitVec 32 := Scalar.select v97 c1_i32_67 c8_i32_65
  let v99 : BitVec 32 := Scalar.remsi v96 v98
  let c0_i32_69 : BitVec 32 := 0#32
  let v101 : BitVec 1 := Scalar.cmpi .slt v99 c0_i32_69
  let c0_i32_70 : BitVec 32 := 0#32
  let v102 : BitVec 1 := Scalar.cmpi .slt v98 c0_i32_70
  let v103 : BitVec 1 := Scalar.xori v101 v102
  let c0_i32_68 : BitVec 32 := 0#32
  let v100 : BitVec 1 := Scalar.cmpi .ne v99 c0_i32_68
  let v104 : BitVec 1 := Scalar.andi v103 v100
  let v105 : BitVec 32 := Scalar.addi v99 v98
  let v106 : BitVec 32 := Scalar.select v104 v105 v99
  let c64_i32 : BitVec 32 := 64#32
  let v107 : BitVec 32 := Scalar.muli v106 c64_i32
  let v108 : BitVec 32 := v107
  let v109 : Index := Scalar.indexCast v108
  let c0 : Index := 0#32
  ![v109.toNat, 0]
def k0_off2 (d0 : Dev nD) (c0_i32_64 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_63 : BitVec 32 := 1#32
  let v95 : BitVec 32 := Scalar.addi v2 c1_i32_63
  let v96 : BitVec 32 := Scalar.addi v95 c0_i32_64
  let c8_i32_65 : BitVec 32 := 8#32
  let c0_i32_66 : BitVec 32 := 0#32
  let v97 : BitVec 1 := Scalar.cmpi .eq c8_i32_65 c0_i32_66
  let c1_i32_67 : BitVec 32 := 1#32
  let v98 : BitVec 32 := Scalar.select v97 c1_i32_67 c8_i32_65
  let v99 : BitVec 32 := Scalar.remsi v96 v98
  let c0_i32_69 : BitVec 32 := 0#32
  let v101 : BitVec 1 := Scalar.cmpi .slt v99 c0_i32_69
  let c0_i32_70 : BitVec 32 := 0#32
  let v102 : BitVec 1 := Scalar.cmpi .slt v98 c0_i32_70
  let v103 : BitVec 1 := Scalar.xori v101 v102
  let c0_i32_68 : BitVec 32 := 0#32
  let v100 : BitVec 1 := Scalar.cmpi .ne v99 c0_i32_68
  let v104 : BitVec 1 := Scalar.andi v103 v100
  let v105 : BitVec 32 := Scalar.addi v99 v98
  let v106 : BitVec 32 := Scalar.select v104 v105 v99
  let c64_i32 : BitVec 32 := 64#32
  let v107 : BitVec 32 := Scalar.muli v106 c64_i32
  let v108 : BitVec 32 := v107
  let v115 : Index := Scalar.indexCast v108
  let c0_73 : Index := 0#32
  ![v115.toNat, 0]
def k0_off3 (d0 : Dev nD) (c0_i32_64 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_63 : BitVec 32 := 1#32
  let v95 : BitVec 32 := Scalar.addi v2 c1_i32_63
  let v96 : BitVec 32 := Scalar.addi v95 c0_i32_64
  let c8_i32_65 : BitVec 32 := 8#32
  let c0_i32_66 : BitVec 32 := 0#32
  let v97 : BitVec 1 := Scalar.cmpi .eq c8_i32_65 c0_i32_66
  let c1_i32_67 : BitVec 32 := 1#32
  let v98 : BitVec 32 := Scalar.select v97 c1_i32_67 c8_i32_65
  let v99 : BitVec 32 := Scalar.remsi v96 v98
  let c0_i32_69 : BitVec 32 := 0#32
  let v101 : BitVec 1 := Scalar.cmpi .slt v99 c0_i32_69
  let c0_i32_70 : BitVec 32 := 0#32
  let v102 : BitVec 1 := Scalar.cmpi .slt v98 c0_i32_70
  let v103 : BitVec 1 := Scalar.xori v101 v102
  let c0_i32_68 : BitVec 32 := 0#32
  let v100 : BitVec 1 := Scalar.cmpi .ne v99 c0_i32_68
  let v104 : BitVec 1 := Scalar.andi v103 v100
  let v105 : BitVec 32 := Scalar.addi v99 v98
  let v106 : BitVec 32 := Scalar.select v104 v105 v99
  let c64_i32 : BitVec 32 := 64#32
  let v107 : BitVec 32 := Scalar.muli v106 c64_i32
  let v108 : BitVec 32 := v107
  let c0_i32_82 : BitVec 32 := 0#32
  ![v108.toNat, 0]
def k0_dev8 (d0 : Dev nD) : Nat :=
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_63 : BitVec 32 := 1#32
  let v95 : BitVec 32 := Scalar.addi v2 c1_i32_63
  let c0_i32_64 : BitVec 32 := 0#32
  let v96 : BitVec 32 := Scalar.addi v95 c0_i32_64
  let c8_i32_65 : BitVec 32 := 8#32
  let c0_i32_66 : BitVec 32 := 0#32
  let v97 : BitVec 1 := Scalar.cmpi .eq c8_i32_65 c0_i32_66
  let c1_i32_67 : BitVec 32 := 1#32
  let v98 : BitVec 32 := Scalar.select v97 c1_i32_67 c8_i32_65
  let v99 : BitVec 32 := Scalar.remsi v96 v98
  let c0_i32_69 : BitVec 32 := 0#32
  let v101 : BitVec 1 := Scalar.cmpi .slt v99 c0_i32_69
  let c0_i32_70 : BitVec 32 := 0#32
  let v102 : BitVec 1 := Scalar.cmpi .slt v98 c0_i32_70
  let v103 : BitVec 1 := Scalar.xori v101 v102
  let c0_i32_68 : BitVec 32 := 0#32
  let v100 : BitVec 1 := Scalar.cmpi .ne v99 c0_i32_68
  let v104 : BitVec 1 := Scalar.andi v103 v100
  let v105 : BitVec 32 := Scalar.addi v99 v98
  let v106 : BitVec 32 := Scalar.select v104 v105 v99
  let c1_i32_78 : BitVec 32 := 1#32
  let v117 : BitVec 32 := Scalar.muli v106 c1_i32_78
  let v118 : BitVec 32 := Scalar.addi c0_i32_79 v117
  v118.toNat
def k0_off4 (d0 : Dev nD) (c0_i32_64 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_63 : BitVec 32 := 1#32
  let v95 : BitVec 32 := Scalar.addi v2 c1_i32_63
  let v96 : BitVec 32 := Scalar.addi v95 c0_i32_64
  let c8_i32_65 : BitVec 32 := 8#32
  let c0_i32_66 : BitVec 32 := 0#32
  let v97 : BitVec 1 := Scalar.cmpi .eq c8_i32_65 c0_i32_66
  let c1_i32_67 : BitVec 32 := 1#32
  let v98 : BitVec 32 := Scalar.select v97 c1_i32_67 c8_i32_65
  let v99 : BitVec 32 := Scalar.remsi v96 v98
  let c0_i32_69 : BitVec 32 := 0#32
  let v101 : BitVec 1 := Scalar.cmpi .slt v99 c0_i32_69
  let c0_i32_70 : BitVec 32 := 0#32
  let v102 : BitVec 1 := Scalar.cmpi .slt v98 c0_i32_70
  let v103 : BitVec 1 := Scalar.xori v101 v102
  let c0_i32_68 : BitVec 32 := 0#32
  let v100 : BitVec 1 := Scalar.cmpi .ne v99 c0_i32_68
  let v104 : BitVec 1 := Scalar.andi v103 v100
  let v105 : BitVec 32 := Scalar.addi v99 v98
  let v106 : BitVec 32 := Scalar.select v104 v105 v99
  let c64_i32 : BitVec 32 := 64#32
  let v107 : BitVec 32 := Scalar.muli v106 c64_i32
  let v108 : BitVec 32 := v107
  let c256_i32 : BitVec 32 := 256#32
  ![v108.toNat, 256]
def k0_dev9 (d0 : Dev nD) : Nat :=
  let c0_i32_86 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_63 : BitVec 32 := 1#32
  let v95 : BitVec 32 := Scalar.addi v2 c1_i32_63
  let c0_i32_64 : BitVec 32 := 0#32
  let v96 : BitVec 32 := Scalar.addi v95 c0_i32_64
  let c8_i32_65 : BitVec 32 := 8#32
  let c0_i32_66 : BitVec 32 := 0#32
  let v97 : BitVec 1 := Scalar.cmpi .eq c8_i32_65 c0_i32_66
  let c1_i32_67 : BitVec 32 := 1#32
  let v98 : BitVec 32 := Scalar.select v97 c1_i32_67 c8_i32_65
  let v99 : BitVec 32 := Scalar.remsi v96 v98
  let c0_i32_69 : BitVec 32 := 0#32
  let v101 : BitVec 1 := Scalar.cmpi .slt v99 c0_i32_69
  let c0_i32_70 : BitVec 32 := 0#32
  let v102 : BitVec 1 := Scalar.cmpi .slt v98 c0_i32_70
  let v103 : BitVec 1 := Scalar.xori v101 v102
  let c0_i32_68 : BitVec 32 := 0#32
  let v100 : BitVec 1 := Scalar.cmpi .ne v99 c0_i32_68
  let v104 : BitVec 1 := Scalar.andi v103 v100
  let v105 : BitVec 32 := Scalar.addi v99 v98
  let v106 : BitVec 32 := Scalar.select v104 v105 v99
  let c1_i32_85 : BitVec 32 := 1#32
  let v126 : BitVec 32 := Scalar.muli v106 c1_i32_85
  let v127 : BitVec 32 := Scalar.addi c0_i32_86 v126
  v127.toNat
def k0_mult2 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_89 : BitVec 32 := 1#32
  let v135 : BitVec 32 := Scalar.addi v2 c1_i32_89
  let c1_i32_90 : BitVec 32 := 1#32
  let v136 : BitVec 32 := Scalar.addi v135 c1_i32_90
  let c8_i32_91 : BitVec 32 := 8#32
  let c0_i32_92 : BitVec 32 := 0#32
  let v137 : BitVec 1 := Scalar.cmpi .eq c8_i32_91 c0_i32_92
  let c1_i32_93 : BitVec 32 := 1#32
  let v138 : BitVec 32 := Scalar.select v137 c1_i32_93 c8_i32_91
  let v139 : BitVec 32 := Scalar.remsi v136 v138
  let c0_i32_95 : BitVec 32 := 0#32
  let v141 : BitVec 1 := Scalar.cmpi .slt v139 c0_i32_95
  let c0_i32_96 : BitVec 32 := 0#32
  let v142 : BitVec 1 := Scalar.cmpi .slt v138 c0_i32_96
  let v143 : BitVec 1 := Scalar.xori v141 v142
  let c0_i32_94 : BitVec 32 := 0#32
  let v140 : BitVec 1 := Scalar.cmpi .ne v139 c0_i32_94
  let v144 : BitVec 1 := Scalar.andi v143 v140
  let v145 : BitVec 32 := Scalar.addi v139 v138
  let v146 : BitVec 32 := Scalar.select v144 v145 v139
  let c64_i32_97 : BitVec 32 := 64#32
  let v147 : BitVec 32 := Scalar.muli v146 c64_i32_97
  v147
def k0_dev10 (d0 : Dev nD) : Nat :=
  let c0_i32_107 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_89 : BitVec 32 := 1#32
  let v135 : BitVec 32 := Scalar.addi v2 c1_i32_89
  let c1_i32_90 : BitVec 32 := 1#32
  let v136 : BitVec 32 := Scalar.addi v135 c1_i32_90
  let c8_i32_91 : BitVec 32 := 8#32
  let c0_i32_92 : BitVec 32 := 0#32
  let v137 : BitVec 1 := Scalar.cmpi .eq c8_i32_91 c0_i32_92
  let c1_i32_93 : BitVec 32 := 1#32
  let v138 : BitVec 32 := Scalar.select v137 c1_i32_93 c8_i32_91
  let v139 : BitVec 32 := Scalar.remsi v136 v138
  let c0_i32_95 : BitVec 32 := 0#32
  let v141 : BitVec 1 := Scalar.cmpi .slt v139 c0_i32_95
  let c0_i32_96 : BitVec 32 := 0#32
  let v142 : BitVec 1 := Scalar.cmpi .slt v138 c0_i32_96
  let v143 : BitVec 1 := Scalar.xori v141 v142
  let c0_i32_94 : BitVec 32 := 0#32
  let v140 : BitVec 1 := Scalar.cmpi .ne v139 c0_i32_94
  let v144 : BitVec 1 := Scalar.andi v143 v140
  let v145 : BitVec 32 := Scalar.addi v139 v138
  let v146 : BitVec 32 := Scalar.select v144 v145 v139
  let c1_i32_106 : BitVec 32 := 1#32
  let v157 : BitVec 32 := Scalar.muli v146 c1_i32_106
  let v158 : BitVec 32 := Scalar.addi c0_i32_107 v157
  v158.toNat
def k0_dev11 (d0 : Dev nD) : Nat :=
  let c0_i32_114 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_89 : BitVec 32 := 1#32
  let v135 : BitVec 32 := Scalar.addi v2 c1_i32_89
  let c1_i32_90 : BitVec 32 := 1#32
  let v136 : BitVec 32 := Scalar.addi v135 c1_i32_90
  let c8_i32_91 : BitVec 32 := 8#32
  let c0_i32_92 : BitVec 32 := 0#32
  let v137 : BitVec 1 := Scalar.cmpi .eq c8_i32_91 c0_i32_92
  let c1_i32_93 : BitVec 32 := 1#32
  let v138 : BitVec 32 := Scalar.select v137 c1_i32_93 c8_i32_91
  let v139 : BitVec 32 := Scalar.remsi v136 v138
  let c0_i32_95 : BitVec 32 := 0#32
  let v141 : BitVec 1 := Scalar.cmpi .slt v139 c0_i32_95
  let c0_i32_96 : BitVec 32 := 0#32
  let v142 : BitVec 1 := Scalar.cmpi .slt v138 c0_i32_96
  let v143 : BitVec 1 := Scalar.xori v141 v142
  let c0_i32_94 : BitVec 32 := 0#32
  let v140 : BitVec 1 := Scalar.cmpi .ne v139 c0_i32_94
  let v144 : BitVec 1 := Scalar.andi v143 v140
  let v145 : BitVec 32 := Scalar.addi v139 v138
  let v146 : BitVec 32 := Scalar.select v144 v145 v139
  let c1_i32_113 : BitVec 32 := 1#32
  let v166 : BitVec 32 := Scalar.muli v146 c1_i32_113
  let v167 : BitVec 32 := Scalar.addi c0_i32_114 v166
  v167.toNat
def k0_mult3 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_118 : BitVec 32 := 1#32
  let v175 : BitVec 32 := Scalar.addi v2 c1_i32_118
  let c2_i32_119 : BitVec 32 := 2#32
  let v176 : BitVec 32 := Scalar.addi v175 c2_i32_119
  let c8_i32_120 : BitVec 32 := 8#32
  let c0_i32_121 : BitVec 32 := 0#32
  let v177 : BitVec 1 := Scalar.cmpi .eq c8_i32_120 c0_i32_121
  let c1_i32_122 : BitVec 32 := 1#32
  let v178 : BitVec 32 := Scalar.select v177 c1_i32_122 c8_i32_120
  let v179 : BitVec 32 := Scalar.remsi v176 v178
  let c0_i32_124 : BitVec 32 := 0#32
  let v181 : BitVec 1 := Scalar.cmpi .slt v179 c0_i32_124
  let c0_i32_125 : BitVec 32 := 0#32
  let v182 : BitVec 1 := Scalar.cmpi .slt v178 c0_i32_125
  let v183 : BitVec 1 := Scalar.xori v181 v182
  let c0_i32_123 : BitVec 32 := 0#32
  let v180 : BitVec 1 := Scalar.cmpi .ne v179 c0_i32_123
  let v184 : BitVec 1 := Scalar.andi v183 v180
  let v185 : BitVec 32 := Scalar.addi v179 v178
  let v186 : BitVec 32 := Scalar.select v184 v185 v179
  let c64_i32_126 : BitVec 32 := 64#32
  let v187 : BitVec 32 := Scalar.muli v186 c64_i32_126
  v187
def k0_dev12 (d0 : Dev nD) : Nat :=
  let c0_i32_136 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_118 : BitVec 32 := 1#32
  let v175 : BitVec 32 := Scalar.addi v2 c1_i32_118
  let c2_i32_119 : BitVec 32 := 2#32
  let v176 : BitVec 32 := Scalar.addi v175 c2_i32_119
  let c8_i32_120 : BitVec 32 := 8#32
  let c0_i32_121 : BitVec 32 := 0#32
  let v177 : BitVec 1 := Scalar.cmpi .eq c8_i32_120 c0_i32_121
  let c1_i32_122 : BitVec 32 := 1#32
  let v178 : BitVec 32 := Scalar.select v177 c1_i32_122 c8_i32_120
  let v179 : BitVec 32 := Scalar.remsi v176 v178
  let c0_i32_124 : BitVec 32 := 0#32
  let v181 : BitVec 1 := Scalar.cmpi .slt v179 c0_i32_124
  let c0_i32_125 : BitVec 32 := 0#32
  let v182 : BitVec 1 := Scalar.cmpi .slt v178 c0_i32_125
  let v183 : BitVec 1 := Scalar.xori v181 v182
  let c0_i32_123 : BitVec 32 := 0#32
  let v180 : BitVec 1 := Scalar.cmpi .ne v179 c0_i32_123
  let v184 : BitVec 1 := Scalar.andi v183 v180
  let v185 : BitVec 32 := Scalar.addi v179 v178
  let v186 : BitVec 32 := Scalar.select v184 v185 v179
  let c1_i32_135 : BitVec 32 := 1#32
  let v197 : BitVec 32 := Scalar.muli v186 c1_i32_135
  let v198 : BitVec 32 := Scalar.addi c0_i32_136 v197
  v198.toNat
def k0_dev13 (d0 : Dev nD) : Nat :=
  let c0_i32_142 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_118 : BitVec 32 := 1#32
  let v175 : BitVec 32 := Scalar.addi v2 c1_i32_118
  let c2_i32_119 : BitVec 32 := 2#32
  let v176 : BitVec 32 := Scalar.addi v175 c2_i32_119
  let c8_i32_120 : BitVec 32 := 8#32
  let c0_i32_121 : BitVec 32 := 0#32
  let v177 : BitVec 1 := Scalar.cmpi .eq c8_i32_120 c0_i32_121
  let c1_i32_122 : BitVec 32 := 1#32
  let v178 : BitVec 32 := Scalar.select v177 c1_i32_122 c8_i32_120
  let v179 : BitVec 32 := Scalar.remsi v176 v178
  let c0_i32_124 : BitVec 32 := 0#32
  let v181 : BitVec 1 := Scalar.cmpi .slt v179 c0_i32_124
  let c0_i32_125 : BitVec 32 := 0#32
  let v182 : BitVec 1 := Scalar.cmpi .slt v178 c0_i32_125
  let v183 : BitVec 1 := Scalar.xori v181 v182
  let c0_i32_123 : BitVec 32 := 0#32
  let v180 : BitVec 1 := Scalar.cmpi .ne v179 c0_i32_123
  let v184 : BitVec 1 := Scalar.andi v183 v180
  let v185 : BitVec 32 := Scalar.addi v179 v178
  let v186 : BitVec 32 := Scalar.select v184 v185 v179
  let c1_i32_141 : BitVec 32 := 1#32
  let v206 : BitVec 32 := Scalar.muli v186 c1_i32_141
  let v207 : BitVec 32 := Scalar.addi c0_i32_142 v206
  v207.toNat
def k0_mult4 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_146 : BitVec 32 := 1#32
  let v215 : BitVec 32 := Scalar.addi v2 c1_i32_146
  let c3_i32_147 : BitVec 32 := 3#32
  let v216 : BitVec 32 := Scalar.addi v215 c3_i32_147
  let c8_i32_148 : BitVec 32 := 8#32
  let c0_i32_149 : BitVec 32 := 0#32
  let v217 : BitVec 1 := Scalar.cmpi .eq c8_i32_148 c0_i32_149
  let c1_i32_150 : BitVec 32 := 1#32
  let v218 : BitVec 32 := Scalar.select v217 c1_i32_150 c8_i32_148
  let v219 : BitVec 32 := Scalar.remsi v216 v218
  let c0_i32_152 : BitVec 32 := 0#32
  let v221 : BitVec 1 := Scalar.cmpi .slt v219 c0_i32_152
  let c0_i32_153 : BitVec 32 := 0#32
  let v222 : BitVec 1 := Scalar.cmpi .slt v218 c0_i32_153
  let v223 : BitVec 1 := Scalar.xori v221 v222
  let c0_i32_151 : BitVec 32 := 0#32
  let v220 : BitVec 1 := Scalar.cmpi .ne v219 c0_i32_151
  let v224 : BitVec 1 := Scalar.andi v223 v220
  let v225 : BitVec 32 := Scalar.addi v219 v218
  let v226 : BitVec 32 := Scalar.select v224 v225 v219
  let c64_i32_154 : BitVec 32 := 64#32
  let v227 : BitVec 32 := Scalar.muli v226 c64_i32_154
  v227
def k0_dev14 (d0 : Dev nD) : Nat :=
  let c0_i32_164 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_146 : BitVec 32 := 1#32
  let v215 : BitVec 32 := Scalar.addi v2 c1_i32_146
  let c3_i32_147 : BitVec 32 := 3#32
  let v216 : BitVec 32 := Scalar.addi v215 c3_i32_147
  let c8_i32_148 : BitVec 32 := 8#32
  let c0_i32_149 : BitVec 32 := 0#32
  let v217 : BitVec 1 := Scalar.cmpi .eq c8_i32_148 c0_i32_149
  let c1_i32_150 : BitVec 32 := 1#32
  let v218 : BitVec 32 := Scalar.select v217 c1_i32_150 c8_i32_148
  let v219 : BitVec 32 := Scalar.remsi v216 v218
  let c0_i32_152 : BitVec 32 := 0#32
  let v221 : BitVec 1 := Scalar.cmpi .slt v219 c0_i32_152
  let c0_i32_153 : BitVec 32 := 0#32
  let v222 : BitVec 1 := Scalar.cmpi .slt v218 c0_i32_153
  let v223 : BitVec 1 := Scalar.xori v221 v222
  let c0_i32_151 : BitVec 32 := 0#32
  let v220 : BitVec 1 := Scalar.cmpi .ne v219 c0_i32_151
  let v224 : BitVec 1 := Scalar.andi v223 v220
  let v225 : BitVec 32 := Scalar.addi v219 v218
  let v226 : BitVec 32 := Scalar.select v224 v225 v219
  let c1_i32_163 : BitVec 32 := 1#32
  let v237 : BitVec 32 := Scalar.muli v226 c1_i32_163
  let v238 : BitVec 32 := Scalar.addi c0_i32_164 v237
  v238.toNat
def k0_dev15 (d0 : Dev nD) : Nat :=
  let c0_i32_171 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_146 : BitVec 32 := 1#32
  let v215 : BitVec 32 := Scalar.addi v2 c1_i32_146
  let c3_i32_147 : BitVec 32 := 3#32
  let v216 : BitVec 32 := Scalar.addi v215 c3_i32_147
  let c8_i32_148 : BitVec 32 := 8#32
  let c0_i32_149 : BitVec 32 := 0#32
  let v217 : BitVec 1 := Scalar.cmpi .eq c8_i32_148 c0_i32_149
  let c1_i32_150 : BitVec 32 := 1#32
  let v218 : BitVec 32 := Scalar.select v217 c1_i32_150 c8_i32_148
  let v219 : BitVec 32 := Scalar.remsi v216 v218
  let c0_i32_152 : BitVec 32 := 0#32
  let v221 : BitVec 1 := Scalar.cmpi .slt v219 c0_i32_152
  let c0_i32_153 : BitVec 32 := 0#32
  let v222 : BitVec 1 := Scalar.cmpi .slt v218 c0_i32_153
  let v223 : BitVec 1 := Scalar.xori v221 v222
  let c0_i32_151 : BitVec 32 := 0#32
  let v220 : BitVec 1 := Scalar.cmpi .ne v219 c0_i32_151
  let v224 : BitVec 1 := Scalar.andi v223 v220
  let v225 : BitVec 32 := Scalar.addi v219 v218
  let v226 : BitVec 32 := Scalar.select v224 v225 v219
  let c1_i32_170 : BitVec 32 := 1#32
  let v246 : BitVec 32 := Scalar.muli v226 c1_i32_170
  let v247 : BitVec 32 := Scalar.addi c0_i32_171 v246
  v247.toNat
def k0_mult5 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_175 : BitVec 32 := 1#32
  let v255 : BitVec 32 := Scalar.addi v2 c1_i32_175
  let c4_i32_176 : BitVec 32 := 4#32
  let v256 : BitVec 32 := Scalar.addi v255 c4_i32_176
  let c8_i32_177 : BitVec 32 := 8#32
  let c0_i32_178 : BitVec 32 := 0#32
  let v257 : BitVec 1 := Scalar.cmpi .eq c8_i32_177 c0_i32_178
  let c1_i32_179 : BitVec 32 := 1#32
  let v258 : BitVec 32 := Scalar.select v257 c1_i32_179 c8_i32_177
  let v259 : BitVec 32 := Scalar.remsi v256 v258
  let c0_i32_181 : BitVec 32 := 0#32
  let v261 : BitVec 1 := Scalar.cmpi .slt v259 c0_i32_181
  let c0_i32_182 : BitVec 32 := 0#32
  let v262 : BitVec 1 := Scalar.cmpi .slt v258 c0_i32_182
  let v263 : BitVec 1 := Scalar.xori v261 v262
  let c0_i32_180 : BitVec 32 := 0#32
  let v260 : BitVec 1 := Scalar.cmpi .ne v259 c0_i32_180
  let v264 : BitVec 1 := Scalar.andi v263 v260
  let v265 : BitVec 32 := Scalar.addi v259 v258
  let v266 : BitVec 32 := Scalar.select v264 v265 v259
  let c64_i32_183 : BitVec 32 := 64#32
  let v267 : BitVec 32 := Scalar.muli v266 c64_i32_183
  v267
def k0_dev16 (d0 : Dev nD) : Nat :=
  let c0_i32_193 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_175 : BitVec 32 := 1#32
  let v255 : BitVec 32 := Scalar.addi v2 c1_i32_175
  let c4_i32_176 : BitVec 32 := 4#32
  let v256 : BitVec 32 := Scalar.addi v255 c4_i32_176
  let c8_i32_177 : BitVec 32 := 8#32
  let c0_i32_178 : BitVec 32 := 0#32
  let v257 : BitVec 1 := Scalar.cmpi .eq c8_i32_177 c0_i32_178
  let c1_i32_179 : BitVec 32 := 1#32
  let v258 : BitVec 32 := Scalar.select v257 c1_i32_179 c8_i32_177
  let v259 : BitVec 32 := Scalar.remsi v256 v258
  let c0_i32_181 : BitVec 32 := 0#32
  let v261 : BitVec 1 := Scalar.cmpi .slt v259 c0_i32_181
  let c0_i32_182 : BitVec 32 := 0#32
  let v262 : BitVec 1 := Scalar.cmpi .slt v258 c0_i32_182
  let v263 : BitVec 1 := Scalar.xori v261 v262
  let c0_i32_180 : BitVec 32 := 0#32
  let v260 : BitVec 1 := Scalar.cmpi .ne v259 c0_i32_180
  let v264 : BitVec 1 := Scalar.andi v263 v260
  let v265 : BitVec 32 := Scalar.addi v259 v258
  let v266 : BitVec 32 := Scalar.select v264 v265 v259
  let c1_i32_192 : BitVec 32 := 1#32
  let v277 : BitVec 32 := Scalar.muli v266 c1_i32_192
  let v278 : BitVec 32 := Scalar.addi c0_i32_193 v277
  v278.toNat
def k0_dev17 (d0 : Dev nD) : Nat :=
  let c0_i32_201 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_175 : BitVec 32 := 1#32
  let v255 : BitVec 32 := Scalar.addi v2 c1_i32_175
  let c4_i32_176 : BitVec 32 := 4#32
  let v256 : BitVec 32 := Scalar.addi v255 c4_i32_176
  let c8_i32_177 : BitVec 32 := 8#32
  let c0_i32_178 : BitVec 32 := 0#32
  let v257 : BitVec 1 := Scalar.cmpi .eq c8_i32_177 c0_i32_178
  let c1_i32_179 : BitVec 32 := 1#32
  let v258 : BitVec 32 := Scalar.select v257 c1_i32_179 c8_i32_177
  let v259 : BitVec 32 := Scalar.remsi v256 v258
  let c0_i32_181 : BitVec 32 := 0#32
  let v261 : BitVec 1 := Scalar.cmpi .slt v259 c0_i32_181
  let c0_i32_182 : BitVec 32 := 0#32
  let v262 : BitVec 1 := Scalar.cmpi .slt v258 c0_i32_182
  let v263 : BitVec 1 := Scalar.xori v261 v262
  let c0_i32_180 : BitVec 32 := 0#32
  let v260 : BitVec 1 := Scalar.cmpi .ne v259 c0_i32_180
  let v264 : BitVec 1 := Scalar.andi v263 v260
  let v265 : BitVec 32 := Scalar.addi v259 v258
  let v266 : BitVec 32 := Scalar.select v264 v265 v259
  let c1_i32_200 : BitVec 32 := 1#32
  let v286 : BitVec 32 := Scalar.muli v266 c1_i32_200
  let v287 : BitVec 32 := Scalar.addi c0_i32_201 v286
  v287.toNat
def k0_mult6 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_205 : BitVec 32 := 1#32
  let v295 : BitVec 32 := Scalar.addi v2 c1_i32_205
  let c5_i32_206 : BitVec 32 := 5#32
  let v296 : BitVec 32 := Scalar.addi v295 c5_i32_206
  let c8_i32_207 : BitVec 32 := 8#32
  let c0_i32_208 : BitVec 32 := 0#32
  let v297 : BitVec 1 := Scalar.cmpi .eq c8_i32_207 c0_i32_208
  let c1_i32_209 : BitVec 32 := 1#32
  let v298 : BitVec 32 := Scalar.select v297 c1_i32_209 c8_i32_207
  let v299 : BitVec 32 := Scalar.remsi v296 v298
  let c0_i32_211 : BitVec 32 := 0#32
  let v301 : BitVec 1 := Scalar.cmpi .slt v299 c0_i32_211
  let c0_i32_212 : BitVec 32 := 0#32
  let v302 : BitVec 1 := Scalar.cmpi .slt v298 c0_i32_212
  let v303 : BitVec 1 := Scalar.xori v301 v302
  let c0_i32_210 : BitVec 32 := 0#32
  let v300 : BitVec 1 := Scalar.cmpi .ne v299 c0_i32_210
  let v304 : BitVec 1 := Scalar.andi v303 v300
  let v305 : BitVec 32 := Scalar.addi v299 v298
  let v306 : BitVec 32 := Scalar.select v304 v305 v299
  let c64_i32_213 : BitVec 32 := 64#32
  let v307 : BitVec 32 := Scalar.muli v306 c64_i32_213
  v307
def k0_dev18 (d0 : Dev nD) : Nat :=
  let c0_i32_223 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_205 : BitVec 32 := 1#32
  let v295 : BitVec 32 := Scalar.addi v2 c1_i32_205
  let c5_i32_206 : BitVec 32 := 5#32
  let v296 : BitVec 32 := Scalar.addi v295 c5_i32_206
  let c8_i32_207 : BitVec 32 := 8#32
  let c0_i32_208 : BitVec 32 := 0#32
  let v297 : BitVec 1 := Scalar.cmpi .eq c8_i32_207 c0_i32_208
  let c1_i32_209 : BitVec 32 := 1#32
  let v298 : BitVec 32 := Scalar.select v297 c1_i32_209 c8_i32_207
  let v299 : BitVec 32 := Scalar.remsi v296 v298
  let c0_i32_211 : BitVec 32 := 0#32
  let v301 : BitVec 1 := Scalar.cmpi .slt v299 c0_i32_211
  let c0_i32_212 : BitVec 32 := 0#32
  let v302 : BitVec 1 := Scalar.cmpi .slt v298 c0_i32_212
  let v303 : BitVec 1 := Scalar.xori v301 v302
  let c0_i32_210 : BitVec 32 := 0#32
  let v300 : BitVec 1 := Scalar.cmpi .ne v299 c0_i32_210
  let v304 : BitVec 1 := Scalar.andi v303 v300
  let v305 : BitVec 32 := Scalar.addi v299 v298
  let v306 : BitVec 32 := Scalar.select v304 v305 v299
  let c1_i32_222 : BitVec 32 := 1#32
  let v317 : BitVec 32 := Scalar.muli v306 c1_i32_222
  let v318 : BitVec 32 := Scalar.addi c0_i32_223 v317
  v318.toNat
def k0_dev19 (d0 : Dev nD) : Nat :=
  let c0_i32_231 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_205 : BitVec 32 := 1#32
  let v295 : BitVec 32 := Scalar.addi v2 c1_i32_205
  let c5_i32_206 : BitVec 32 := 5#32
  let v296 : BitVec 32 := Scalar.addi v295 c5_i32_206
  let c8_i32_207 : BitVec 32 := 8#32
  let c0_i32_208 : BitVec 32 := 0#32
  let v297 : BitVec 1 := Scalar.cmpi .eq c8_i32_207 c0_i32_208
  let c1_i32_209 : BitVec 32 := 1#32
  let v298 : BitVec 32 := Scalar.select v297 c1_i32_209 c8_i32_207
  let v299 : BitVec 32 := Scalar.remsi v296 v298
  let c0_i32_211 : BitVec 32 := 0#32
  let v301 : BitVec 1 := Scalar.cmpi .slt v299 c0_i32_211
  let c0_i32_212 : BitVec 32 := 0#32
  let v302 : BitVec 1 := Scalar.cmpi .slt v298 c0_i32_212
  let v303 : BitVec 1 := Scalar.xori v301 v302
  let c0_i32_210 : BitVec 32 := 0#32
  let v300 : BitVec 1 := Scalar.cmpi .ne v299 c0_i32_210
  let v304 : BitVec 1 := Scalar.andi v303 v300
  let v305 : BitVec 32 := Scalar.addi v299 v298
  let v306 : BitVec 32 := Scalar.select v304 v305 v299
  let c1_i32_230 : BitVec 32 := 1#32
  let v326 : BitVec 32 := Scalar.muli v306 c1_i32_230
  let v327 : BitVec 32 := Scalar.addi c0_i32_231 v326
  v327.toNat
def k0_mult7 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_235 : BitVec 32 := 1#32
  let v335 : BitVec 32 := Scalar.addi v2 c1_i32_235
  let c6_i32_236 : BitVec 32 := 6#32
  let v336 : BitVec 32 := Scalar.addi v335 c6_i32_236
  let c8_i32_237 : BitVec 32 := 8#32
  let c0_i32_238 : BitVec 32 := 0#32
  let v337 : BitVec 1 := Scalar.cmpi .eq c8_i32_237 c0_i32_238
  let c1_i32_239 : BitVec 32 := 1#32
  let v338 : BitVec 32 := Scalar.select v337 c1_i32_239 c8_i32_237
  let v339 : BitVec 32 := Scalar.remsi v336 v338
  let c0_i32_241 : BitVec 32 := 0#32
  let v341 : BitVec 1 := Scalar.cmpi .slt v339 c0_i32_241
  let c0_i32_242 : BitVec 32 := 0#32
  let v342 : BitVec 1 := Scalar.cmpi .slt v338 c0_i32_242
  let v343 : BitVec 1 := Scalar.xori v341 v342
  let c0_i32_240 : BitVec 32 := 0#32
  let v340 : BitVec 1 := Scalar.cmpi .ne v339 c0_i32_240
  let v344 : BitVec 1 := Scalar.andi v343 v340
  let v345 : BitVec 32 := Scalar.addi v339 v338
  let v346 : BitVec 32 := Scalar.select v344 v345 v339
  let c64_i32_243 : BitVec 32 := 64#32
  let v347 : BitVec 32 := Scalar.muli v346 c64_i32_243
  v347
def k0_dev20 (d0 : Dev nD) : Nat :=
  let c0_i32_253 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_235 : BitVec 32 := 1#32
  let v335 : BitVec 32 := Scalar.addi v2 c1_i32_235
  let c6_i32_236 : BitVec 32 := 6#32
  let v336 : BitVec 32 := Scalar.addi v335 c6_i32_236
  let c8_i32_237 : BitVec 32 := 8#32
  let c0_i32_238 : BitVec 32 := 0#32
  let v337 : BitVec 1 := Scalar.cmpi .eq c8_i32_237 c0_i32_238
  let c1_i32_239 : BitVec 32 := 1#32
  let v338 : BitVec 32 := Scalar.select v337 c1_i32_239 c8_i32_237
  let v339 : BitVec 32 := Scalar.remsi v336 v338
  let c0_i32_241 : BitVec 32 := 0#32
  let v341 : BitVec 1 := Scalar.cmpi .slt v339 c0_i32_241
  let c0_i32_242 : BitVec 32 := 0#32
  let v342 : BitVec 1 := Scalar.cmpi .slt v338 c0_i32_242
  let v343 : BitVec 1 := Scalar.xori v341 v342
  let c0_i32_240 : BitVec 32 := 0#32
  let v340 : BitVec 1 := Scalar.cmpi .ne v339 c0_i32_240
  let v344 : BitVec 1 := Scalar.andi v343 v340
  let v345 : BitVec 32 := Scalar.addi v339 v338
  let v346 : BitVec 32 := Scalar.select v344 v345 v339
  let c1_i32_252 : BitVec 32 := 1#32
  let v357 : BitVec 32 := Scalar.muli v346 c1_i32_252
  let v358 : BitVec 32 := Scalar.addi c0_i32_253 v357
  v358.toNat
def k0_dev21 (d0 : Dev nD) : Nat :=
  let c0_i32_261 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_235 : BitVec 32 := 1#32
  let v335 : BitVec 32 := Scalar.addi v2 c1_i32_235
  let c6_i32_236 : BitVec 32 := 6#32
  let v336 : BitVec 32 := Scalar.addi v335 c6_i32_236
  let c8_i32_237 : BitVec 32 := 8#32
  let c0_i32_238 : BitVec 32 := 0#32
  let v337 : BitVec 1 := Scalar.cmpi .eq c8_i32_237 c0_i32_238
  let c1_i32_239 : BitVec 32 := 1#32
  let v338 : BitVec 32 := Scalar.select v337 c1_i32_239 c8_i32_237
  let v339 : BitVec 32 := Scalar.remsi v336 v338
  let c0_i32_241 : BitVec 32 := 0#32
  let v341 : BitVec 1 := Scalar.cmpi .slt v339 c0_i32_241
  let c0_i32_242 : BitVec 32 := 0#32
  let v342 : BitVec 1 := Scalar.cmpi .slt v338 c0_i32_242
  let v343 : BitVec 1 := Scalar.xori v341 v342
  let c0_i32_240 : BitVec 32 := 0#32
  let v340 : BitVec 1 := Scalar.cmpi .ne v339 c0_i32_240
  let v344 : BitVec 1 := Scalar.andi v343 v340
  let v345 : BitVec 32 := Scalar.addi v339 v338
  let v346 : BitVec 32 := Scalar.select v344 v345 v339
  let c1_i32_260 : BitVec 32 := 1#32
  let v366 : BitVec 32 := Scalar.muli v346 c1_i32_260
  let v367 : BitVec 32 := Scalar.addi c0_i32_261 v366
  v367.toNat
def k0_mult8 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_265 : BitVec 32 := 64#32
  let v375 : BitVec 32 := Scalar.muli v2 c64_i32_265
  v375
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_265 : BitVec 32 := 64#32
  let v375 : BitVec 32 := Scalar.muli v2 c64_i32_265
  let v376 : BitVec 32 := v375
  let v377 : Index := Scalar.indexCast v376
  let c0_266 : Index := 0#32
  ![v377.toNat, 0]
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_265 : BitVec 32 := 64#32
  let v375 : BitVec 32 := Scalar.muli v2 c64_i32_265
  let v376 : BitVec 32 := v375
  let v383 : Index := Scalar.indexCast v376
  let c0_270 : Index := 0#32
  ![v383.toNat, 0]
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_265 : BitVec 32 := 64#32
  let v375 : BitVec 32 := Scalar.muli v2 c64_i32_265
  let v376 : BitVec 32 := v375
  let v434 : Index := Scalar.indexCast v376
  let c0_327 : Index := 0#32
  ![v434.toNat, 0]
def k0_off8 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_265 : BitVec 32 := 64#32
  let v375 : BitVec 32 := Scalar.muli v2 c64_i32_265
  let v376 : BitVec 32 := v375
  let c0_i32_360 : BitVec 32 := 0#32
  ![v376.toNat, 0]
def k0_dev22 (d0 : Dev nD) : Nat :=
  let c0_i32_359 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_348 : BitVec 32 := 1#32
  let v473 : BitVec 32 := Scalar.addi v2 c1_i32_348
  let c0_i32_349 : BitVec 32 := 0#32
  let v474 : BitVec 32 := Scalar.addi v473 c0_i32_349
  let c8_i32_350 : BitVec 32 := 8#32
  let c0_i32_351 : BitVec 32 := 0#32
  let v475 : BitVec 1 := Scalar.cmpi .eq c8_i32_350 c0_i32_351
  let c1_i32_352 : BitVec 32 := 1#32
  let v476 : BitVec 32 := Scalar.select v475 c1_i32_352 c8_i32_350
  let v477 : BitVec 32 := Scalar.remsi v474 v476
  let c0_i32_354 : BitVec 32 := 0#32
  let v479 : BitVec 1 := Scalar.cmpi .slt v477 c0_i32_354
  let c0_i32_355 : BitVec 32 := 0#32
  let v480 : BitVec 1 := Scalar.cmpi .slt v476 c0_i32_355
  let v481 : BitVec 1 := Scalar.xori v479 v480
  let c0_i32_353 : BitVec 32 := 0#32
  let v478 : BitVec 1 := Scalar.cmpi .ne v477 c0_i32_353
  let v482 : BitVec 1 := Scalar.andi v481 v478
  let v483 : BitVec 32 := Scalar.addi v477 v476
  let v484 : BitVec 32 := Scalar.select v482 v483 v477
  let c1_i32_358 : BitVec 32 := 1#32
  let v485 : BitVec 32 := Scalar.muli v484 c1_i32_358
  let v486 : BitVec 32 := Scalar.addi c0_i32_359 v485
  v486.toNat
def k0_dev23 (d0 : Dev nD) : Nat :=
  let c0_i32_373 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_362 : BitVec 32 := 1#32
  let v493 : BitVec 32 := Scalar.addi v2 c1_i32_362
  let c1_i32_363 : BitVec 32 := 1#32
  let v494 : BitVec 32 := Scalar.addi v493 c1_i32_363
  let c8_i32_364 : BitVec 32 := 8#32
  let c0_i32_365 : BitVec 32 := 0#32
  let v495 : BitVec 1 := Scalar.cmpi .eq c8_i32_364 c0_i32_365
  let c1_i32_366 : BitVec 32 := 1#32
  let v496 : BitVec 32 := Scalar.select v495 c1_i32_366 c8_i32_364
  let v497 : BitVec 32 := Scalar.remsi v494 v496
  let c0_i32_368 : BitVec 32 := 0#32
  let v499 : BitVec 1 := Scalar.cmpi .slt v497 c0_i32_368
  let c0_i32_369 : BitVec 32 := 0#32
  let v500 : BitVec 1 := Scalar.cmpi .slt v496 c0_i32_369
  let v501 : BitVec 1 := Scalar.xori v499 v500
  let c0_i32_367 : BitVec 32 := 0#32
  let v498 : BitVec 1 := Scalar.cmpi .ne v497 c0_i32_367
  let v502 : BitVec 1 := Scalar.andi v501 v498
  let v503 : BitVec 32 := Scalar.addi v497 v496
  let v504 : BitVec 32 := Scalar.select v502 v503 v497
  let c1_i32_372 : BitVec 32 := 1#32
  let v505 : BitVec 32 := Scalar.muli v504 c1_i32_372
  let v506 : BitVec 32 := Scalar.addi c0_i32_373 v505
  v506.toNat
def k0_dev24 (d0 : Dev nD) : Nat :=
  let c0_i32_387 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_376 : BitVec 32 := 1#32
  let v513 : BitVec 32 := Scalar.addi v2 c1_i32_376
  let c2_i32_377 : BitVec 32 := 2#32
  let v514 : BitVec 32 := Scalar.addi v513 c2_i32_377
  let c8_i32_378 : BitVec 32 := 8#32
  let c0_i32_379 : BitVec 32 := 0#32
  let v515 : BitVec 1 := Scalar.cmpi .eq c8_i32_378 c0_i32_379
  let c1_i32_380 : BitVec 32 := 1#32
  let v516 : BitVec 32 := Scalar.select v515 c1_i32_380 c8_i32_378
  let v517 : BitVec 32 := Scalar.remsi v514 v516
  let c0_i32_382 : BitVec 32 := 0#32
  let v519 : BitVec 1 := Scalar.cmpi .slt v517 c0_i32_382
  let c0_i32_383 : BitVec 32 := 0#32
  let v520 : BitVec 1 := Scalar.cmpi .slt v516 c0_i32_383
  let v521 : BitVec 1 := Scalar.xori v519 v520
  let c0_i32_381 : BitVec 32 := 0#32
  let v518 : BitVec 1 := Scalar.cmpi .ne v517 c0_i32_381
  let v522 : BitVec 1 := Scalar.andi v521 v518
  let v523 : BitVec 32 := Scalar.addi v517 v516
  let v524 : BitVec 32 := Scalar.select v522 v523 v517
  let c1_i32_386 : BitVec 32 := 1#32
  let v525 : BitVec 32 := Scalar.muli v524 c1_i32_386
  let v526 : BitVec 32 := Scalar.addi c0_i32_387 v525
  v526.toNat
def k0_dev25 (d0 : Dev nD) : Nat :=
  let c0_i32_401 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_390 : BitVec 32 := 1#32
  let v533 : BitVec 32 := Scalar.addi v2 c1_i32_390
  let c3_i32_391 : BitVec 32 := 3#32
  let v534 : BitVec 32 := Scalar.addi v533 c3_i32_391
  let c8_i32_392 : BitVec 32 := 8#32
  let c0_i32_393 : BitVec 32 := 0#32
  let v535 : BitVec 1 := Scalar.cmpi .eq c8_i32_392 c0_i32_393
  let c1_i32_394 : BitVec 32 := 1#32
  let v536 : BitVec 32 := Scalar.select v535 c1_i32_394 c8_i32_392
  let v537 : BitVec 32 := Scalar.remsi v534 v536
  let c0_i32_396 : BitVec 32 := 0#32
  let v539 : BitVec 1 := Scalar.cmpi .slt v537 c0_i32_396
  let c0_i32_397 : BitVec 32 := 0#32
  let v540 : BitVec 1 := Scalar.cmpi .slt v536 c0_i32_397
  let v541 : BitVec 1 := Scalar.xori v539 v540
  let c0_i32_395 : BitVec 32 := 0#32
  let v538 : BitVec 1 := Scalar.cmpi .ne v537 c0_i32_395
  let v542 : BitVec 1 := Scalar.andi v541 v538
  let v543 : BitVec 32 := Scalar.addi v537 v536
  let v544 : BitVec 32 := Scalar.select v542 v543 v537
  let c1_i32_400 : BitVec 32 := 1#32
  let v545 : BitVec 32 := Scalar.muli v544 c1_i32_400
  let v546 : BitVec 32 := Scalar.addi c0_i32_401 v545
  v546.toNat
def k0_dev26 (d0 : Dev nD) : Nat :=
  let c0_i32_415 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_404 : BitVec 32 := 1#32
  let v553 : BitVec 32 := Scalar.addi v2 c1_i32_404
  let c4_i32_405 : BitVec 32 := 4#32
  let v554 : BitVec 32 := Scalar.addi v553 c4_i32_405
  let c8_i32_406 : BitVec 32 := 8#32
  let c0_i32_407 : BitVec 32 := 0#32
  let v555 : BitVec 1 := Scalar.cmpi .eq c8_i32_406 c0_i32_407
  let c1_i32_408 : BitVec 32 := 1#32
  let v556 : BitVec 32 := Scalar.select v555 c1_i32_408 c8_i32_406
  let v557 : BitVec 32 := Scalar.remsi v554 v556
  let c0_i32_410 : BitVec 32 := 0#32
  let v559 : BitVec 1 := Scalar.cmpi .slt v557 c0_i32_410
  let c0_i32_411 : BitVec 32 := 0#32
  let v560 : BitVec 1 := Scalar.cmpi .slt v556 c0_i32_411
  let v561 : BitVec 1 := Scalar.xori v559 v560
  let c0_i32_409 : BitVec 32 := 0#32
  let v558 : BitVec 1 := Scalar.cmpi .ne v557 c0_i32_409
  let v562 : BitVec 1 := Scalar.andi v561 v558
  let v563 : BitVec 32 := Scalar.addi v557 v556
  let v564 : BitVec 32 := Scalar.select v562 v563 v557
  let c1_i32_414 : BitVec 32 := 1#32
  let v565 : BitVec 32 := Scalar.muli v564 c1_i32_414
  let v566 : BitVec 32 := Scalar.addi c0_i32_415 v565
  v566.toNat
def k0_dev27 (d0 : Dev nD) : Nat :=
  let c0_i32_429 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_418 : BitVec 32 := 1#32
  let v573 : BitVec 32 := Scalar.addi v2 c1_i32_418
  let c5_i32_419 : BitVec 32 := 5#32
  let v574 : BitVec 32 := Scalar.addi v573 c5_i32_419
  let c8_i32_420 : BitVec 32 := 8#32
  let c0_i32_421 : BitVec 32 := 0#32
  let v575 : BitVec 1 := Scalar.cmpi .eq c8_i32_420 c0_i32_421
  let c1_i32_422 : BitVec 32 := 1#32
  let v576 : BitVec 32 := Scalar.select v575 c1_i32_422 c8_i32_420
  let v577 : BitVec 32 := Scalar.remsi v574 v576
  let c0_i32_424 : BitVec 32 := 0#32
  let v579 : BitVec 1 := Scalar.cmpi .slt v577 c0_i32_424
  let c0_i32_425 : BitVec 32 := 0#32
  let v580 : BitVec 1 := Scalar.cmpi .slt v576 c0_i32_425
  let v581 : BitVec 1 := Scalar.xori v579 v580
  let c0_i32_423 : BitVec 32 := 0#32
  let v578 : BitVec 1 := Scalar.cmpi .ne v577 c0_i32_423
  let v582 : BitVec 1 := Scalar.andi v581 v578
  let v583 : BitVec 32 := Scalar.addi v577 v576
  let v584 : BitVec 32 := Scalar.select v582 v583 v577
  let c1_i32_428 : BitVec 32 := 1#32
  let v585 : BitVec 32 := Scalar.muli v584 c1_i32_428
  let v586 : BitVec 32 := Scalar.addi c0_i32_429 v585
  v586.toNat
def k0_dev28 (d0 : Dev nD) : Nat :=
  let c0_i32_443 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_432 : BitVec 32 := 1#32
  let v593 : BitVec 32 := Scalar.addi v2 c1_i32_432
  let c6_i32_433 : BitVec 32 := 6#32
  let v594 : BitVec 32 := Scalar.addi v593 c6_i32_433
  let c8_i32_434 : BitVec 32 := 8#32
  let c0_i32_435 : BitVec 32 := 0#32
  let v595 : BitVec 1 := Scalar.cmpi .eq c8_i32_434 c0_i32_435
  let c1_i32_436 : BitVec 32 := 1#32
  let v596 : BitVec 32 := Scalar.select v595 c1_i32_436 c8_i32_434
  let v597 : BitVec 32 := Scalar.remsi v594 v596
  let c0_i32_438 : BitVec 32 := 0#32
  let v599 : BitVec 1 := Scalar.cmpi .slt v597 c0_i32_438
  let c0_i32_439 : BitVec 32 := 0#32
  let v600 : BitVec 1 := Scalar.cmpi .slt v596 c0_i32_439
  let v601 : BitVec 1 := Scalar.xori v599 v600
  let c0_i32_437 : BitVec 32 := 0#32
  let v598 : BitVec 1 := Scalar.cmpi .ne v597 c0_i32_437
  let v602 : BitVec 1 := Scalar.andi v601 v598
  let v603 : BitVec 32 := Scalar.addi v597 v596
  let v604 : BitVec 32 := Scalar.select v602 v603 v597
  let c1_i32_442 : BitVec 32 := 1#32
  let v605 : BitVec 32 := Scalar.muli v604 c1_i32_442
  let v606 : BitVec 32 := Scalar.addi c0_i32_443 v605
  v606.toNat
def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_265 : BitVec 32 := 64#32
  let v375 : BitVec 32 := Scalar.muli v2 c64_i32_265
  let v376 : BitVec 32 := v375
  let v662 : Index := Scalar.indexCast v376
  let c256 : Index := 256#32
  ![v662.toNat, 256]
def k0_off10 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_265 : BitVec 32 := 64#32
  let v375 : BitVec 32 := Scalar.muli v2 c64_i32_265
  let v376 : BitVec 32 := v375
  let c256_i32_540 : BitVec 32 := 256#32
  ![v376.toNat, 256]
def k0_dev29 (d0 : Dev nD) : Nat :=
  let c0_i32_539 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_528 : BitVec 32 := 1#32
  let v701 : BitVec 32 := Scalar.addi v2 c1_i32_528
  let c0_i32_529 : BitVec 32 := 0#32
  let v702 : BitVec 32 := Scalar.addi v701 c0_i32_529
  let c8_i32_530 : BitVec 32 := 8#32
  let c0_i32_531 : BitVec 32 := 0#32
  let v703 : BitVec 1 := Scalar.cmpi .eq c8_i32_530 c0_i32_531
  let c1_i32_532 : BitVec 32 := 1#32
  let v704 : BitVec 32 := Scalar.select v703 c1_i32_532 c8_i32_530
  let v705 : BitVec 32 := Scalar.remsi v702 v704
  let c0_i32_534 : BitVec 32 := 0#32
  let v707 : BitVec 1 := Scalar.cmpi .slt v705 c0_i32_534
  let c0_i32_535 : BitVec 32 := 0#32
  let v708 : BitVec 1 := Scalar.cmpi .slt v704 c0_i32_535
  let v709 : BitVec 1 := Scalar.xori v707 v708
  let c0_i32_533 : BitVec 32 := 0#32
  let v706 : BitVec 1 := Scalar.cmpi .ne v705 c0_i32_533
  let v710 : BitVec 1 := Scalar.andi v709 v706
  let v711 : BitVec 32 := Scalar.addi v705 v704
  let v712 : BitVec 32 := Scalar.select v710 v711 v705
  let c1_i32_538 : BitVec 32 := 1#32
  let v713 : BitVec 32 := Scalar.muli v712 c1_i32_538
  let v714 : BitVec 32 := Scalar.addi c0_i32_539 v713
  v714.toNat
def k0_dev30 (d0 : Dev nD) : Nat :=
  let c0_i32_553 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_542 : BitVec 32 := 1#32
  let v721 : BitVec 32 := Scalar.addi v2 c1_i32_542
  let c1_i32_543 : BitVec 32 := 1#32
  let v722 : BitVec 32 := Scalar.addi v721 c1_i32_543
  let c8_i32_544 : BitVec 32 := 8#32
  let c0_i32_545 : BitVec 32 := 0#32
  let v723 : BitVec 1 := Scalar.cmpi .eq c8_i32_544 c0_i32_545
  let c1_i32_546 : BitVec 32 := 1#32
  let v724 : BitVec 32 := Scalar.select v723 c1_i32_546 c8_i32_544
  let v725 : BitVec 32 := Scalar.remsi v722 v724
  let c0_i32_548 : BitVec 32 := 0#32
  let v727 : BitVec 1 := Scalar.cmpi .slt v725 c0_i32_548
  let c0_i32_549 : BitVec 32 := 0#32
  let v728 : BitVec 1 := Scalar.cmpi .slt v724 c0_i32_549
  let v729 : BitVec 1 := Scalar.xori v727 v728
  let c0_i32_547 : BitVec 32 := 0#32
  let v726 : BitVec 1 := Scalar.cmpi .ne v725 c0_i32_547
  let v730 : BitVec 1 := Scalar.andi v729 v726
  let v731 : BitVec 32 := Scalar.addi v725 v724
  let v732 : BitVec 32 := Scalar.select v730 v731 v725
  let c1_i32_552 : BitVec 32 := 1#32
  let v733 : BitVec 32 := Scalar.muli v732 c1_i32_552
  let v734 : BitVec 32 := Scalar.addi c0_i32_553 v733
  v734.toNat
def k0_dev31 (d0 : Dev nD) : Nat :=
  let c0_i32_567 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_556 : BitVec 32 := 1#32
  let v741 : BitVec 32 := Scalar.addi v2 c1_i32_556
  let c2_i32_557 : BitVec 32 := 2#32
  let v742 : BitVec 32 := Scalar.addi v741 c2_i32_557
  let c8_i32_558 : BitVec 32 := 8#32
  let c0_i32_559 : BitVec 32 := 0#32
  let v743 : BitVec 1 := Scalar.cmpi .eq c8_i32_558 c0_i32_559
  let c1_i32_560 : BitVec 32 := 1#32
  let v744 : BitVec 32 := Scalar.select v743 c1_i32_560 c8_i32_558
  let v745 : BitVec 32 := Scalar.remsi v742 v744
  let c0_i32_562 : BitVec 32 := 0#32
  let v747 : BitVec 1 := Scalar.cmpi .slt v745 c0_i32_562
  let c0_i32_563 : BitVec 32 := 0#32
  let v748 : BitVec 1 := Scalar.cmpi .slt v744 c0_i32_563
  let v749 : BitVec 1 := Scalar.xori v747 v748
  let c0_i32_561 : BitVec 32 := 0#32
  let v746 : BitVec 1 := Scalar.cmpi .ne v745 c0_i32_561
  let v750 : BitVec 1 := Scalar.andi v749 v746
  let v751 : BitVec 32 := Scalar.addi v745 v744
  let v752 : BitVec 32 := Scalar.select v750 v751 v745
  let c1_i32_566 : BitVec 32 := 1#32
  let v753 : BitVec 32 := Scalar.muli v752 c1_i32_566
  let v754 : BitVec 32 := Scalar.addi c0_i32_567 v753
  v754.toNat
def k0_dev32 (d0 : Dev nD) : Nat :=
  let c0_i32_581 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_570 : BitVec 32 := 1#32
  let v761 : BitVec 32 := Scalar.addi v2 c1_i32_570
  let c3_i32_571 : BitVec 32 := 3#32
  let v762 : BitVec 32 := Scalar.addi v761 c3_i32_571
  let c8_i32_572 : BitVec 32 := 8#32
  let c0_i32_573 : BitVec 32 := 0#32
  let v763 : BitVec 1 := Scalar.cmpi .eq c8_i32_572 c0_i32_573
  let c1_i32_574 : BitVec 32 := 1#32
  let v764 : BitVec 32 := Scalar.select v763 c1_i32_574 c8_i32_572
  let v765 : BitVec 32 := Scalar.remsi v762 v764
  let c0_i32_576 : BitVec 32 := 0#32
  let v767 : BitVec 1 := Scalar.cmpi .slt v765 c0_i32_576
  let c0_i32_577 : BitVec 32 := 0#32
  let v768 : BitVec 1 := Scalar.cmpi .slt v764 c0_i32_577
  let v769 : BitVec 1 := Scalar.xori v767 v768
  let c0_i32_575 : BitVec 32 := 0#32
  let v766 : BitVec 1 := Scalar.cmpi .ne v765 c0_i32_575
  let v770 : BitVec 1 := Scalar.andi v769 v766
  let v771 : BitVec 32 := Scalar.addi v765 v764
  let v772 : BitVec 32 := Scalar.select v770 v771 v765
  let c1_i32_580 : BitVec 32 := 1#32
  let v773 : BitVec 32 := Scalar.muli v772 c1_i32_580
  let v774 : BitVec 32 := Scalar.addi c0_i32_581 v773
  v774.toNat
def k0_dev33 (d0 : Dev nD) : Nat :=
  let c0_i32_595 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_584 : BitVec 32 := 1#32
  let v781 : BitVec 32 := Scalar.addi v2 c1_i32_584
  let c4_i32_585 : BitVec 32 := 4#32
  let v782 : BitVec 32 := Scalar.addi v781 c4_i32_585
  let c8_i32_586 : BitVec 32 := 8#32
  let c0_i32_587 : BitVec 32 := 0#32
  let v783 : BitVec 1 := Scalar.cmpi .eq c8_i32_586 c0_i32_587
  let c1_i32_588 : BitVec 32 := 1#32
  let v784 : BitVec 32 := Scalar.select v783 c1_i32_588 c8_i32_586
  let v785 : BitVec 32 := Scalar.remsi v782 v784
  let c0_i32_590 : BitVec 32 := 0#32
  let v787 : BitVec 1 := Scalar.cmpi .slt v785 c0_i32_590
  let c0_i32_591 : BitVec 32 := 0#32
  let v788 : BitVec 1 := Scalar.cmpi .slt v784 c0_i32_591
  let v789 : BitVec 1 := Scalar.xori v787 v788
  let c0_i32_589 : BitVec 32 := 0#32
  let v786 : BitVec 1 := Scalar.cmpi .ne v785 c0_i32_589
  let v790 : BitVec 1 := Scalar.andi v789 v786
  let v791 : BitVec 32 := Scalar.addi v785 v784
  let v792 : BitVec 32 := Scalar.select v790 v791 v785
  let c1_i32_594 : BitVec 32 := 1#32
  let v793 : BitVec 32 := Scalar.muli v792 c1_i32_594
  let v794 : BitVec 32 := Scalar.addi c0_i32_595 v793
  v794.toNat
def k0_dev34 (d0 : Dev nD) : Nat :=
  let c0_i32_609 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_598 : BitVec 32 := 1#32
  let v801 : BitVec 32 := Scalar.addi v2 c1_i32_598
  let c5_i32_599 : BitVec 32 := 5#32
  let v802 : BitVec 32 := Scalar.addi v801 c5_i32_599
  let c8_i32_600 : BitVec 32 := 8#32
  let c0_i32_601 : BitVec 32 := 0#32
  let v803 : BitVec 1 := Scalar.cmpi .eq c8_i32_600 c0_i32_601
  let c1_i32_602 : BitVec 32 := 1#32
  let v804 : BitVec 32 := Scalar.select v803 c1_i32_602 c8_i32_600
  let v805 : BitVec 32 := Scalar.remsi v802 v804
  let c0_i32_604 : BitVec 32 := 0#32
  let v807 : BitVec 1 := Scalar.cmpi .slt v805 c0_i32_604
  let c0_i32_605 : BitVec 32 := 0#32
  let v808 : BitVec 1 := Scalar.cmpi .slt v804 c0_i32_605
  let v809 : BitVec 1 := Scalar.xori v807 v808
  let c0_i32_603 : BitVec 32 := 0#32
  let v806 : BitVec 1 := Scalar.cmpi .ne v805 c0_i32_603
  let v810 : BitVec 1 := Scalar.andi v809 v806
  let v811 : BitVec 32 := Scalar.addi v805 v804
  let v812 : BitVec 32 := Scalar.select v810 v811 v805
  let c1_i32_608 : BitVec 32 := 1#32
  let v813 : BitVec 32 := Scalar.muli v812 c1_i32_608
  let v814 : BitVec 32 := Scalar.addi c0_i32_609 v813
  v814.toNat
def k0_dev35 (d0 : Dev nD) : Nat :=
  let c0_i32_623 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_612 : BitVec 32 := 1#32
  let v821 : BitVec 32 := Scalar.addi v2 c1_i32_612
  let c6_i32_613 : BitVec 32 := 6#32
  let v822 : BitVec 32 := Scalar.addi v821 c6_i32_613
  let c8_i32_614 : BitVec 32 := 8#32
  let c0_i32_615 : BitVec 32 := 0#32
  let v823 : BitVec 1 := Scalar.cmpi .eq c8_i32_614 c0_i32_615
  let c1_i32_616 : BitVec 32 := 1#32
  let v824 : BitVec 32 := Scalar.select v823 c1_i32_616 c8_i32_614
  let v825 : BitVec 32 := Scalar.remsi v822 v824
  let c0_i32_618 : BitVec 32 := 0#32
  let v827 : BitVec 1 := Scalar.cmpi .slt v825 c0_i32_618
  let c0_i32_619 : BitVec 32 := 0#32
  let v828 : BitVec 1 := Scalar.cmpi .slt v824 c0_i32_619
  let v829 : BitVec 1 := Scalar.xori v827 v828
  let c0_i32_617 : BitVec 32 := 0#32
  let v826 : BitVec 1 := Scalar.cmpi .ne v825 c0_i32_617
  let v830 : BitVec 1 := Scalar.andi v829 v826
  let v831 : BitVec 32 := Scalar.addi v825 v824
  let v832 : BitVec 32 := Scalar.select v830 v831 v825
  let c1_i32_622 : BitVec 32 := 1#32
  let v833 : BitVec 32 := Scalar.muli v832 c1_i32_622
  let v834 : BitVec 32 := Scalar.addi c0_i32_623 v833
  v834.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S512x2048 : Shape := ⟨2, ![512, 2048]⟩
abbrev S2048x512 : Shape := ⟨2, ![2048, 512]⟩
abbrev S512x512 : Shape := ⟨2, ![512, 512]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S2048x512, .f32⟩
  | .hbm, ⟨2, _⟩ => ⟨S512x512, .f32⟩
  | .hbm, ⟨3, _⟩ => ⟨S_, .f32⟩
  | .hbm, ⟨4, _⟩ => ⟨S512x512, .f32⟩
  | .hbm, ⟨5, _⟩ => ⟨S512x512, .f32⟩
  | .hbm, ⟨6, _⟩ => ⟨S_, .f32⟩
  | .hbm, ⟨7, _⟩ => ⟨S512x512, .f32⟩
  | .hbm, ⟨8, _⟩ => ⟨S512x512, .f32⟩
  | .hbm, ⟨9, _⟩ => ⟨S512x512, .f32⟩
  | .hbm, ⟨10, _⟩ => ⟨S512x512, .f32⟩
  | .hbm, ⟨11, _⟩ => ⟨S512x512, .f32⟩
  | .hbm, ⟨12, _⟩ => ⟨S_, .f32⟩
  | .hbm, ⟨13, _⟩ => ⟨S512x512, .f32⟩
  | .hbm, ⟨14, _⟩ => ⟨S512x512, .f32⟩
  | .hbm, ⟨15, _⟩ => ⟨S512x512, .f32⟩
  | .hbm, ⟨16, _⟩ => ⟨S_, .f32⟩
  | .hbm, ⟨17, _⟩ => ⟨S512x512, .f32⟩
  | .hbm, ⟨18, _⟩ => ⟨S512x512, .f32⟩
  | .hbm, ⟨19, _⟩ => ⟨S512x512, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Regions.lean ====
/-
The pieces of memory the kernel's transfers move, the devices they go to, and the values they hold.

A device's 512x512 result block is cut into 8 row blocks of 64 rows, one per device, and each row block into a left and
a right half of 256 columns. A landing buffer (one per half) has 7 slots of 64x256, slot `s` filled by the device
`s + 1` places further round the ring of 8. Every piece is named by its number, so each fact below is stated once
for all of them.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Allreduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy, and the exchange's, whose duties are numbered by `Fin 7` -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring of devices -/

set_option backward.proofsInPublic true in
/-- The device `j + 1` places after `c`: where copy `j` of `c` goes, and where slot `j` of `c` is filled from. -/
def peer (c : Dev nD) (j : Fin 7) : Dev nD := ⟨(c.val + 1 + j.val) % 8, Nat.mod_lt _ (by decide)⟩

theorem peer_rev (c : Dev nD) (j : Fin 7) : peer (peer c j) j.rev = c := by revert c j; decide
theorem peer_ne (c : Dev nD) (j : Fin 7) : peer c j ≠ c := by revert c j; decide
theorem peer_inj (c : Dev nD) {i j : Fin 7} (h : peer c i = peer c j) : i = j := by revert c i j; decide
theorem peer_exists (c d : Dev nD) (h : d ≠ c) : ∃ j, peer c j = d := by revert c d; decide

/-- For one `j`, going `j + 1` places on is a permutation of the devices. -/
def shift (j : Fin 7) : Dev nD ≃ Dev nD :=
  ⟨fun c => peer c j, fun c => peer c j.rev, fun c => peer_rev c j,
    fun c => by have := peer_rev c j.rev; rwa [Fin.rev_rev] at this⟩

/-! ## The pieces -/

theorem dev_lt (p : Dev nD) : p.val < 8 := p.isLt
theorem row_inb (p : Dev nD) {n : ℕ} (o w : ℕ) (h : o + w ≤ n) :
    ∀ a, (![64 * p.val, o] : Fin 2 → ℕ) a + (![64, w] : Fin 2 → ℕ) a ≤ (![512, n] : Fin 2 → ℕ) a :=
  Fin.forall_fin_two.mpr ⟨by have := dev_lt p; show 64 * p.val + 64 ≤ 512; omega, h⟩
theorem col_bound (h : Fin 2) : 256 * h.val + 256 ≤ 512 := by omega
theorem col_inb (h : Fin 2) : ∀ a, (![0, 256 * h.val] : Fin 2 → ℕ) a + (![64, 256] : Fin 2 → ℕ) a ≤ (![64, 512] : Fin 2 → ℕ) a :=
  Fin.forall_fin_two.mpr ⟨Nat.le_refl 64, col_bound h⟩

abbrev aM : Memref sig .tc .vmem S512x256 .f32 := Memref.whole cc0_stg0_0
abbrev bM : Memref sig .tc .vmem S256x512 .f32 := Memref.whole cc0_stg1_0
abbrev oM : Memref sig .tc .vmem S512x512 .f32 := Memref.whole cc0_stg2_0
/-- The landing buffer of each half. -/
abbrev lM : Fin 2 → Memref sig .tc .vmem S7x64x256 .f32 := fun | 0 => Memref.whole cc0_scratch0 | 1 => Memref.whole cc0_scratch1

set_option backward.proofsInPublic true in
abbrev rowR (p : Dev nD) : Rect S512x512 :=
  Rect.unit (s := S512x512) ![64 * p.val, 0] S64x512.size (row_inb p 0 512 (by decide))
set_option backward.proofsInPublic true in
abbrev aR (p : Dev nD) : Rect S512x256 :=
  Rect.unit (s := S512x256) ![64 * p.val, 0] S64x256.size (row_inb p 0 256 (by decide))
set_option backward.proofsInPublic true in
abbrev halfR (p : Dev nD) (h : Fin 2) : Rect S512x512 :=
  Rect.unit (s := S512x512) ![64 * p.val, 256 * h.val] S64x256.size
    (row_inb p (256 * h.val) 256 (col_bound h))
set_option backward.proofsInPublic true in
abbrev colR (h : Fin 2) : Rect S64x512 :=
  Rect.unit (s := S64x512) ![0, 256 * h.val] S64x256.size (col_inb h)
set_option backward.proofsInPublic true in
theorem slot_inb (s : Fin 7) : ∀ a, (![s.val, 0, 0] : Fin 3 → ℕ) a + S1x64x256.size a ≤ S7x64x256.size a := by revert s; decide
abbrev slotR (s : Fin 7) : Rect S7x64x256 := Rect.unit (s := S7x64x256) ![s.val, 0, 0] S1x64x256.size (slot_inb s)

/-- Rows of block `p`, all columns, -/
abbrev rowM (p : Dev nD) : Memref sig .tc .vmem S64x512 .f32 := (oM : Memref sig .tc .vmem S512x512 .f32).slice (rowR p) (fun _ => rfl)
/-- rows of block `p`, the columns of half `h`, -/
abbrev halfM (p : Dev nD) (h : Fin 2) : Memref sig .tc .vmem S64x256 .f32 := (oM : Memref sig .tc .vmem S512x512 .f32).slice (halfR p h) (fun _ => rfl)
/-- and slot `s` of half `h`'s landing buffer. -/
abbrev slotM (h : Fin 2) (s : Fin 7) : Memref sig .tc .vmem S64x256 .f32 :=
  ((lM h).slice (slotR s) (fun _ => rfl)).squeeze S64x256 squeezes_S1x64x256_S64x256

/-- Device `c` owns memref `M` at share `q` and reads `v` through it. -/
abbrev holds (c : Dev nD) {s : Shape} (M : Memref sig .tc .vmem s .f32) (q : PosShare TreeShare) (v : s.Idx → Elt F .f32) : sProp 𝕄 :=
  owns (Ix := Unit) (Name := ℕ) (U := UU) (Lvl := ℕ) (Val := Elt F) (c : Thread nD τ) M q v

/-- Device `c` owns memref `M` outright, whatever it holds. -/
def anyAt (c : Dev nD) {s : Shape} (M : Memref sig .tc .vmem s .f32) : sProp 𝕄 := iprop(∃ v, holds (F := F) c M fullShare v)

omit [FloatOps F] in
instance anyAt_storable (c : Dev nD) {s : Shape} (M : Memref sig .tc .vmem s .f32) :
    BI.Storable (upEmb : UEmb _ 𝕄) (anyAt (F := F) c M) := by unfold anyAt; infer_instance

/-! ## Families over the seven peers, counted off in order -/

section Seg
variable {I : Type} {P : Type}

/-- The conjunction of `Φ j` over the `j` with `a ≤ j < b`. -/
def seg (a b : ℕ) (Φ : Fin 7 → sProp 𝕄) : sProp 𝕄 := bigSep (Finset.univ.filter fun j : Fin 7 => a ≤ j.val ∧ j.val < b) Φ

omit [FloatOps F] in
theorem seg_all (Φ : Fin 7 → sProp 𝕄) : seg 0 7 Φ = bigSep Finset.univ Φ := by
  unfold seg; congr 1
omit [FloatOps F] in
theorem seg_nil (a : ℕ) (Φ : Fin 7 → sProp 𝕄) : seg a a Φ = iprop(emp) := by
  unfold seg
  rw [show (Finset.univ.filter fun j : Fin 7 => a ≤ j.val ∧ j.val < a) = ∅ from Finset.filter_eq_empty_iff.mpr fun j _ h => by omega]
  exact bigSep_empty
omit [FloatOps F] in
/-- The first one taken off. -/
theorem seg_take (a b : ℕ) (h : a < 7) (hb : a < b) (Φ : Fin 7 → sProp 𝕄) : seg a b Φ = iprop(Φ ⟨a, h⟩ ∗ seg (a + 1) b Φ) := by
  unfold seg
  rw [show (Finset.univ.filter fun j : Fin 7 => a ≤ j.val ∧ j.val < b)
      = insert (⟨a, h⟩ : Fin 7) (Finset.univ.filter fun j : Fin 7 => a + 1 ≤ j.val ∧ j.val < b) from by
    ext j; simp only [Finset.mem_filter, Finset.mem_univ, true_and, Finset.mem_insert, Fin.ext_iff]; omega]
  exact bigSep_insert (by simp)
omit [FloatOps F] in
/-- One more put on. -/
theorem seg_put (a b : ℕ) (h : b < 7) (ha : a ≤ b) (Φ : Fin 7 → sProp 𝕄) : seg a (b + 1) Φ = iprop(Φ ⟨b, h⟩ ∗ seg a b Φ) := by
  unfold seg
  rw [show (Finset.univ.filter fun j : Fin 7 => a ≤ j.val ∧ j.val < b + 1)
      = insert (⟨b, h⟩ : Fin 7) (Finset.univ.filter fun j : Fin 7 => a ≤ j.val ∧ j.val < b) from by
    ext j; simp only [Finset.mem_filter, Finset.mem_univ, true_and, Finset.mem_insert, Fin.ext_iff]; omega]
  exact bigSep_insert (by simp)
end Seg

omit [FloatOps F] in
/-- A conjunction over all devices: `c`'s own, and its seven peers'. -/
theorem bigSep_devs (c : Dev nD) (Φ : Dev nD → sProp 𝕄) :
    bigSep Finset.univ Φ = iprop(Φ c ∗ bigSep Finset.univ fun j : Fin 7 => Φ (peer c j)) := by
  rw [show (Finset.univ : Finset (Dev nD)) = insert c (Finset.univ.map ⟨peer c, fun _ _ h => peer_inj c h⟩) from by revert c; decide,
    bigSep_insert (by
      rw [Finset.mem_map]; rintro ⟨j, -, h⟩; exact peer_ne c j h), bigSep_map]
  rfl

omit [FloatOps F] in
/-- A conjunction over the peers, counted from the other end. -/
theorem bigSep_rev (Φ : Fin 7 → sProp 𝕄) : (bigSep Finset.univ fun j : Fin 7 => Φ j.rev) = bigSep Finset.univ Φ :=
  (bigSep_univ_equiv Fin.revPerm Φ).symm

/-! ## Splitting and joining the result block -/

theorem rowR_disj (p p' : Dev nD) (h : p ≠ p') : Disjoint (rowR p).set (rowR p').set :=
  Rect.unit_disjoint 0 (by
    have : p.val ≠ p'.val := fun e => h (Fin.ext e)
    show 64 * p.val + 64 ≤ 64 * p'.val ∨ 64 * p'.val + 64 ≤ 64 * p.val
    omega)
theorem rowR_cover : (Finset.univ : Finset (Dev nD)).biUnion (fun p => (rowR p).set) = Finset.univ := by
  refine Finset.eq_univ_iff_forall.mpr fun i => Finset.mem_biUnion.mpr ?_
  have h0 : (i 0 : ℕ) < 512 := (i 0).isLt
  have h1 : (i 1 : ℕ) < 512 := (i 1).isLt
  refine ⟨⟨(i 0 : ℕ) / 64, by show (i 0 : ℕ) / 64 < 8; omega⟩, Finset.mem_univ _, Rect.mem_set_unit.mpr (Fin.forall_fin_two.mpr ⟨?_, ?_⟩)⟩
  · show 64 * ((i 0 : ℕ) / 64) ≤ (i 0 : ℕ) ∧ (i 0 : ℕ) < 64 * ((i 0 : ℕ) / 64) + 64; omega
  · show 0 ≤ (i 1 : ℕ) ∧ (i 1 : ℕ) < 0 + 512; omega

theorem colR_disj (h h' : Fin 2) (hn : h ≠ h') : Disjoint (colR h).set (colR h').set :=
  Rect.unit_disjoint 1 (by
    have : h.val ≠ h'.val := fun e => hn (Fin.ext e)
    show 256 * h.val + 256 ≤ 256 * h'.val ∨ 256 * h'.val + 256 ≤ 256 * h.val
    omega)
theorem colR_cover : (Finset.univ : Finset (Fin 2)).biUnion (fun h => (colR h).set) = Finset.univ := by
  refine Finset.eq_univ_iff_forall.mpr fun i => Finset.mem_biUnion.mpr ?_
  have h0 : (i 0 : ℕ) < 64 := (i 0).isLt
  have h1 : (i 1 : ℕ) < 512 := (i 1).isLt
  refine ⟨⟨(i 1 : ℕ) / 256, by omega⟩, Finset.mem_univ _, Rect.mem_set_unit.mpr (Fin.forall_fin_two.mpr ⟨?_, ?_⟩)⟩
  · show 0 ≤ (i 0 : ℕ) ∧ (i 0 : ℕ) < 0 + 64; omega
  · show 256 * ((i 1 : ℕ) / 256) ≤ (i 1 : ℕ) ∧ (i 1 : ℕ) < 256 * ((i 1 : ℕ) / 256) + 256; omega

theorem slotR_disj (s s' : Fin 7) (hn : s ≠ s') : Disjoint (slotR s).set (slotR s').set :=
  Rect.unit_disjoint 0 (by
    have : s.val ≠ s'.val := fun e => hn (Fin.ext e)
    show s.val + 1 ≤ s'.val ∨ s'.val + 1 ≤ s.val
    omega)
theorem slotR_cover : (Finset.univ : Finset (Fin 7)).biUnion (fun s => (slotR s).set) = Finset.univ := by
  refine Finset.eq_univ_iff_forall.mpr fun i => Finset.mem_biUnion.mpr ?_
  have h0 : (i 0 : ℕ) < 7 := (i 0).isLt
  have h1 : (i 1 : ℕ) < 64 := (i 1).isLt
  have h2 : (i 2 : ℕ) < 256 := (i 2).isLt
  refine ⟨⟨(i 0 : ℕ), h0⟩, Finset.mem_univ _, Rect.mem_set_unit.mpr ?_⟩
  refine Fin.forall_fin_succ.mpr ⟨?_, Fin.forall_fin_two.mpr ⟨?_, ?_⟩⟩
  · show (i 0 : ℕ) ≤ (i 0 : ℕ) ∧ (i 0 : ℕ) < (i 0 : ℕ) + 1; omega
  · show 0 ≤ (i 1 : ℕ) ∧ (i 1 : ℕ) < 0 + 64; omega
  · show 0 ≤ (i 2 : ℕ) ∧ (i 2 : ℕ) < 0 + 256; omega

/-- The columns of half `h` of the rows of block `p` are the piece `(p, h)`: index by index. -/
theorem half_emb (p : Dev nD) (h : Fin 2) (j : S64x256.Idx) : (rowR p).emb ((colR h).emb j) = (halfR p h).emb j := by
  funext a; refine Fin.ext ?_
  simp only [Rect.emb_apply]
  revert a
  refine Fin.forall_fin_two.mpr ⟨?_, ?_⟩
  · show 64 * p.val + 1 * (0 + 1 * (j 0 : ℕ)) = 64 * p.val + 1 * (j 0 : ℕ); omega
  · show 0 + 1 * (256 * h.val + 1 * (j 1 : ℕ)) = 256 * h.val + 1 * (j 1 : ℕ); omega

omit [FloatOps F] in
theorem holds_half (c p : Dev nD) (h : Fin 2) (q : PosShare TreeShare) (v : S64x256.Idx → Elt F .f32) :
    holds c ((rowM p).slice (colR h) (fun _ => rfl)) q v = holds c (halfM p h) q v := by
  have he : ((rowM p).slice (colR h) (fun _ => rfl)).view.emb = (halfM p h).view.emb := by
    ext1 j; exact half_emb p h j
  unfold holds owns
  have hset : ((rowM p).slice (colR h) (fun _ => rfl)).view.set = (halfM p h).view.set :=
    congrArg (fun e => Finset.univ.map e) he
  have hread (f : Buf (Elt F) ((halfM p h).view.loc (c : Thread nD τ))) :
      ((rowM p).slice (colR h) (fun _ => rfl)).view.read (Elt F) f = (halfM p h).view.read (Elt F) f :=
    funext fun j => congrArg f (half_emb p h j)
  congr 1; funext f
  exact congrArg₂ (fun A B => iprop(⌜A⌝ ∗ B)) (propext (by rw [← hread f])) (congrArg (fun S => (halfM p h).view.loc (c : Thread nD τ) ↦[S]{q} f) hset)

/-- The part in the columns of half `h` of a 64x512 value. -/
def cols (h : Fin 2) (w : S64x512.Idx → Elt F .f32) : S64x256.Idx → Elt F .f32 := fun j => w ((colR h).emb j)

omit [FloatOps F] in
/-- The rows of a block, owned at `w`, are its two halves, each owned at its columns of `w`. -/
theorem row_split (c p : Dev nD) (w : S64x512.Idx → Elt F .f32) :
    holds c (rowM p) fullShare w ⊢ iprop(holds c (halfM p 0) fullShare (cols 0 w) ∗ holds c (halfM p 1) fullShare (cols 1 w)) := by
  refine (owns_rects (c : Thread nD τ) (rowM p) fullShare colR (fun _ _ => rfl) colR_disj colR_cover w).trans ?_
  rw [bigSep_univ_eq_bigSepL [0, 1] (by decide) (by decide), bigSepL_cons_cons, bigSepL_singleton]
  exact BI.sep_mono (Entails.of_eq (holds_half c p 0 fullShare (cols 0 w))) (Entails.of_eq (holds_half c p 1 fullShare (cols 1 w)))

end Cert.Allreduce
-- ==== Proof.Schedule.lean ====
/-
What each device computes, and the schedule of the exchange.

Device `c`'s product of its block of `A`'s rows `p` with its block of `B` is its part of row block `p` of the sum. Each
half of that part goes to device `p` (the first exchange), which adds the 8 parts up, applies the activation, and sends
the finished half to every other device (the second exchange).

Each device has a barrier cell with seven duties (one per peer, handing over the peer's landing slot for copies from
this device) and 56 transfer cells with one duty each. A part's arrival hands over the slot and the place in the sender's
result block it was sent from, which is where the finished half will be returned to.
-/
module

public import proofs.«01_k».proof.Proof.Regions
public import Idealize.ShloMosaic.Lib.Transfers

@[expose] public section

noncomputable section

namespace Cert.Allreduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Values -/

/-- Device `c`'s staged block of `A`, -/
def xa (c : Dev nD) : Vec F S512x256 .f32 := (win0_0.blk (0 : Fin 1)).view.read (Elt F) ((s₀ m ρ).mem ((c : Thread nD τ).loc main_arg0))
/-- and of `B`. -/
def xb (c : Dev nD) : Vec F S256x512 .f32 := (win0_1.blk (0 : Fin 1)).view.read (Elt F) ((s₀ m ρ).mem ((c : Thread nD τ).loc main_arg1))

/-- The rows of block `p` of device `c`'s block of `A`. -/
def rowsA (c p : Dev nD) : Vec F S64x256 .f32 := fun j => xa m ρ c ((aR p).emb j)
/-- Device `c`'s part of row block `p`, -/
def blk (c p : Dev nD) : Vec F S64x512 .f32 := k0_pay1 (rowsA m ρ c p) (xb m ρ c)
/-- and of one half of it. -/
def part (c p : Dev nD) (h : Fin 2) : Vec F S64x256 .f32 := cols h (blk m ρ c p)

/-- A 64x256 value as the 1x64x256 value a load of a slot gives. -/
def up (v : Vec F S64x256 .f32) : Vec F S1x64x256 .f32 :=
  fun i => v ((Shape.reshapeEquiv squeezes_S1x64x256_S64x256.numel_eq).symm i)

/-- The sum of the own part and those of the seven peers, in the order the kernel adds them, under the activation:
    half `h` of the finished row block `q`. -/
def fin (q : Dev nD) (h : Fin 2) : Vec F S64x256 .f32 :=
  k0_pay10 (k0_pay9 (part m ρ q q h) (up (part m ρ (peer q 0) q h)) (up (part m ρ (peer q 1) q h)) (up (part m ρ (peer q 2) q h)))
    (up (part m ρ (peer q 3) q h)) (up (part m ρ (peer q 4) q h)) (up (part m ρ (peer q 5) q h)) (up (part m ρ (peer q 6) q h))

theorem fin_half1 (q : Dev nD) (h : Fin 2) :
    k0_pay12 (k0_pay11 (part m ρ q q h) (up (part m ρ (peer q 0) q h)) (up (part m ρ (peer q 1) q h))) (up (part m ρ (peer q 2) q h))
      (up (part m ρ (peer q 3) q h)) (up (part m ρ (peer q 4) q h)) (up (part m ρ (peer q 5) q h)) (up (part m ρ (peer q 6) q h)) = fin m ρ q h := rfl

/-! ## Cells -/

abbrev barS : Sem sig := (SemArray.scalar (sig.barrier 0 rfl) : Sems sig S_).sem

set_option backward.proofsInPublic true in
/-- Transfer semaphore `i` of half `h` of kind `k`: 0 and 1 the first exchange's departures and arrivals, 2 and 3 the
    second's. -/
def dsem (k : Fin 4) (h : Fin 2) (i : Fin 7) : DmaSem sig :=
  ⟨3 + 14 * k.val + 7 * h.val + i.val, by show 3 + 14 * k.val + 7 * h.val + i.val < 59; omega⟩

abbrev bar (c : Dev nD) : GSem nD τ sig := ((c : Thread nD τ), .reg barS)
abbrev cell (c : Dev nD) (k : Fin 4) (h : Fin 2) (i : Fin 7) : GSem nD τ sig := ((c : Thread nD τ), .dma (dsem k h i))

set_option backward.proofsInPublic true in
def kOf (q : DmaSem sig) : Fin 4 := ⟨(q.val - 3) / 14 % 4, Nat.mod_lt _ (by decide)⟩
set_option backward.proofsInPublic true in
def hOf (q : DmaSem sig) : Fin 2 := ⟨(q.val - 3) % 14 / 7 % 2, Nat.mod_lt _ (by decide)⟩
set_option backward.proofsInPublic true in
def iOf (q : DmaSem sig) : Fin 7 := ⟨(q.val - 3) % 7, Nat.mod_lt _ (by decide)⟩

theorem kOf_dsem (k : Fin 4) (h : Fin 2) (i : Fin 7) : kOf (dsem k h i) = k := by revert k h i; decide
theorem hOf_dsem (k : Fin 4) (h : Fin 2) (i : Fin 7) : hOf (dsem k h i) = h := by revert k h i; decide
theorem iOf_dsem (k : Fin 4) (h : Fin 2) (i : Fin 7) : iOf (dsem k h i) = i := by revert k h i; decide
theorem dsem_le (k : Fin 4) (h : Fin 2) (i : Fin 7) : 3 ≤ (dsem k h i).val := by show 3 ≤ 3 + 14 * k.val + 7 * h.val + i.val; omega

/-- The amount one 64x256 piece adds to a transfer semaphore. -/
abbrev N : ℕ := (halfM 0 0 : Memref sig .tc .vmem S64x256 .f32).view.dmaCredit
theorem N_pos : 0 < N := View.dmaCredit_pos _ (by decide)
theorem N_half (p : Dev nD) (h : Fin 2) : (halfM p h : Memref sig .tc .vmem S64x256 .f32).view.dmaCredit = N := rfl
theorem N_slot (h : Fin 2) (s : Fin 7) : (slotM h s : Memref sig .tc .vmem S64x256 .f32).view.dmaCredit = N := by
  match h with
  | 0 => rfl
  | 1 => rfl

/-! ## The schedule -/

/-- What peer `i`'s signal hands device `c`: the peer's two landing slots for what `c` sends it. -/
def barPay (c : Dev nD) (i : Fin 7) : sProp 𝕄 :=
  iprop(anyAt (F := F) (peer c i) (slotM 0 i.rev) ∗ anyAt (F := F) (peer c i) (slotM 1 i.rev))

/-- What the transfer cell `(k, h, i)` of device `c` hands it. -/
def xferPay (c : Dev nD) (k : Fin 4) (h : Fin 2) (i : Fin 7) : sProp 𝕄 := match k with
  | 0 => iprop(emp)
  | 1 => iprop(holds c (slotM h i) fullShare (part m ρ (peer c i) c h) ∗ holds (peer c i) (halfM c h) fullShare (part m ρ (peer c i) c h))
  | 2 => holds c (halfM c h) (shareTok fullShare 7 i) (fin m ρ c h)
  | 3 => holds c (halfM (peer c i) h) fullShare (fin m ρ (peer c i) h)

omit [FloatOps F] in
instance barPay_storable (c : Dev nD) (i : Fin 7) : BI.Storable (upEmb : UEmb _ 𝕄) (barPay (F := F) c i) := by
  unfold barPay; infer_instance
instance xferPay_storable (c : Dev nD) (k : Fin 4) (h : Fin 2) (i : Fin 7) : BI.Storable (upEmb : UEmb _ 𝕄) (xferPay m ρ c k h i) := by
  unfold xferPay; split <;> infer_instance

abbrev IsBar (g : GSem nD τ sig) : Prop := g.1.2 = .tc ∧ g.2 = .reg barS

def dutiesOf (sm : SemLoc sig) : Finset (Fin 7) := match sm with
  | .reg s => if s = barS then Finset.univ else ∅
  | .dma q => if 3 ≤ q.val then {0} else ∅
def amountOf (sm : SemLoc sig) : ℕ := match sm with
  | .reg _ => 1
  | .dma _ => N
def payOf (c : Dev nD) (sm : SemLoc sig) (d : Fin 7) : sProp 𝕄 := match sm with
  | .reg _ => barPay c d
  | .dma q => xferPay m ρ c (kOf q) (hOf q) (iOf q)

/-- One round: a barrier cell's seven duties of one unit each, a transfer cell's one duty of a piece's amount. -/
def Rd : Rounds.Schedule (GSem nD τ sig) (Fin 7) 𝕄 where
  duties g r := if r = 0 ∧ g.1.2 = .tc then dutiesOf g.2 else ∅
  unitless _ := False
  amount g _ _ := amountOf g.2
  payload g _ d := payOf m ρ g.1.1 g.2 d
  amount_pos g _ _ _ := by
    unfold amountOf; split
    · exact Nat.one_pos
    · exact N_pos

instance Rd_payload_storable (g : GSem nD τ sig) (r : ℕ) (d : Fin 7) :
    BI.Storable (upEmb : UEmb _ 𝕄) ((Rd (F := F) m ρ).payload g r d) := by
  show BI.Storable upEmb (payOf m ρ g.1.1 g.2 d)
  unfold payOf; split <;> infer_instance

section Sched
variable (c : Dev nD) (k : Fin 4) (h : Fin 2) (i : Fin 7)

theorem duties_bar : (Rd (F := F) m ρ).duties (bar c) 0 = Finset.univ := by
  dsimp only [Rd]; rw [if_pos ⟨rfl, rfl⟩]; unfold dutiesOf; exact if_pos rfl
theorem duties_cell : (Rd (F := F) m ρ).duties (cell c k h i) 0 = {0} := by
  dsimp only [Rd]; rw [if_pos ⟨rfl, rfl⟩]; unfold dutiesOf; exact if_pos (dsem_le k h i)
theorem duties_later (g : GSem nD τ sig) : ∀ r, 1 ≤ r → (Rd (F := F) m ρ).duties g r = ∅ :=
  fun r hr => by dsimp only [Rd]; rw [if_neg fun h => by omega]
theorem amount_bar (d : Fin 7) : (Rd (F := F) m ρ).amount (bar c) 0 d = 1 := rfl
theorem amount_cell (d : Fin 7) : (Rd (F := F) m ρ).amount (cell c k h i) 0 d = N := rfl
theorem payload_bar (d : Fin 7) : (Rd (F := F) m ρ).payload (bar c) 0 d = barPay c d := rfl
theorem payload_cell (d : Fin 7) : (Rd (F := F) m ρ).payload (cell c k h i) 0 d = xferPay m ρ c k h i := by
  show xferPay m ρ c (kOf (dsem k h i)) (hOf (dsem k h i)) (iOf (dsem k h i)) = _
  rw [kOf_dsem, hOf_dsem, iOf_dsem]

theorem expect_bar : (Rd (F := F) m ρ).expect (bar c) 0 = 7 := by
  unfold Schedule.expect Schedule.amountOf
  rw [duties_bar, Finset.sum_congr rfl fun d _ => amount_bar m ρ c d, Finset.sum_const, Finset.card_univ, Fintype.card_fin, smul_eq_mul]
theorem expect_cell : (Rd (F := F) m ρ).expect (cell c k h i) 0 = N := by
  unfold Schedule.expect Schedule.amountOf; rw [duties_cell, Finset.sum_singleton, amount_cell]

theorem rest_bar : bigSep ((Rd (F := F) m ρ).duties (bar c) 0 \ ∅) (fun d => (Rd (F := F) m ρ).payload (bar c) 0 d)
    = bigSep Finset.univ fun d : Fin 7 => barPay c d := by
  rw [Finset.sdiff_empty, duties_bar]; rfl
theorem rest_cell : bigSep ((Rd (F := F) m ρ).duties (cell c k h i) 0 \ ∅) (fun d => (Rd (F := F) m ρ).payload (cell c k h i) 0 d)
    = xferPay m ρ c k h i := by
  rw [Finset.sdiff_empty, duties_cell, bigSep_singleton, payload_cell]
end Sched

/-! ## What a device owes, in the order it pays -/

set_option backward.proofsInPublic true in
def f7 (n : ℕ) : Fin 7 := ⟨n % 7, Nat.mod_lt _ (by decide)⟩
set_option backward.proofsInPublic true in
def f2 (n : ℕ) : Fin 2 := ⟨n % 2, Nat.mod_lt _ (by decide)⟩

/-- The cell device `c`'s payment `n` goes to: seven barrier signals, the fourteen copies of the first exchange with the
    halves alternating, the fourteen of the second one half after the other. -/
def dueCell (c : Dev nD) (n : ℕ) : GSem nD τ sig :=
  if n < 7 then bar (peer c (f7 n))
  else if n < 21 then cell (peer c (f7 ((n - 7) / 2))) 1 (f2 ((n - 7) % 2)) (f7 ((n - 7) / 2)).rev
  else cell (peer c (f7 ((n - 21) % 7))) 3 (f2 ((n - 21) / 7)) (f7 ((n - 21) % 7)).rev
def dueAmt (n : ℕ) : ℕ := if n < 7 then 1 else N
def due (c : Dev nD) (n : ℕ) : CellTallies nD τ sig Unit := tallyAt (dueCell c n) () (dueAmt n)
/-- What it still owes once it has made the first `n`. -/
def Owed (c : Dev nD) (n : ℕ) : CellTallies nD τ sig Unit := ∑ i ∈ Finset.Ico n 35, due c i

theorem Owed_step (c : Dev nD) (n : ℕ) (h : n < 35) : Owed c n = Owed c (n + 1) + due c n := by
  unfold Owed
  rw [show Finset.Ico n 35 = insert n (Finset.Ico (n + 1) 35) from by ext x; simp only [Finset.mem_Ico, Finset.mem_insert]; omega,
    Finset.sum_insert (by simp), add_comm]
theorem Owed_end (c : Dev nD) : Owed c 35 = 0 := by unfold Owed; rw [Finset.Ico_self, Finset.sum_empty]

theorem f7_val (j : Fin 7) : f7 j.val = j := Fin.ext (Nat.mod_eq_of_lt j.isLt)
theorem f2_val (h : Fin 2) : f2 h.val = h := Fin.ext (Nat.mod_eq_of_lt h.isLt)

theorem due_bar (c : Dev nD) (j : Fin 7) : due c j.val = tallyAt (bar (peer c j)) () 1 := by
  unfold due dueCell dueAmt; rw [if_pos j.isLt, if_pos j.isLt, f7_val]
theorem due_rs (c : Dev nD) (h : Fin 2) (j : Fin 7) : due c (7 + 2 * j.val + h.val) = tallyAt (cell (peer c j) 1 h j.rev) () N := by
  unfold due dueCell dueAmt
  rw [if_neg (by omega), if_pos (by omega), if_neg (by omega), show (7 + 2 * j.val + h.val - 7) / 2 = j.val by omega,
    show (7 + 2 * j.val + h.val - 7) % 2 = h.val by omega, f7_val, f2_val]
theorem due_ag (c : Dev nD) (h : Fin 2) (j : Fin 7) : due c (21 + 7 * h.val + j.val) = tallyAt (cell (peer c j) 3 h j.rev) () N := by
  unfold due dueCell dueAmt
  rw [if_neg (by omega), if_neg (by omega), if_neg (by omega), show (21 + 7 * h.val + j.val - 21) / 7 = h.val by omega,
    show (21 + 7 * h.val + j.val - 21) % 7 = j.val by omega, f7_val, f2_val]

/-! ## Levels -/

def L (g : GSem nD τ sig) : Finset Unit := if g.1.2 = .tc then {()} else ∅
/-- Barrier cells at 1, the first exchange's arrivals at 2, the second's at 3, everything else at 0. -/
def lvl (sm : SemLoc sig) : ℕ := match sm with
  | .reg _ => 1
  | .dma q => if 17 ≤ q.val ∧ q.val < 31 then 2 else if 45 ≤ q.val then 3 else 0
def lv (g : GSem nD τ sig) (_ : Unit) : ℕ := lvl g.2

theorem L_of_ne (g : GSem nD τ sig) (h : g.1.2 ≠ .tc) : L g = ∅ := if_neg h
theorem L_tc (c : Dev nD) (sm : SemLoc sig) : L ((c : Thread nD τ), sm) = {()} := if_pos rfl

theorem due_tc (c : Dev nD) (n : ℕ) : (dueCell c n).1.2 = .tc := by
  unfold dueCell; split
  · rfl
  · split <;> rfl

theorem lvl_cell (k : Fin 4) (h : Fin 2) (i : Fin 7) : lvl (.dma (dsem k h i)) = if k = 1 then 2 else if k = 3 then 3 else 0 := by
  revert k h i; decide

/-- The lowest level among the payments from `n` on. -/
theorem lvl_due (c : Dev nD) (n : ℕ) : (lvl (dueCell c n).2) = if n < 7 then 1 else if n < 21 then 2 else 3 := by
  unfold dueCell; split
  · rfl
  · split
    · exact lvl_cell _ _ _
    · exact lvl_cell _ _ _

theorem Owed_pos {c : Dev nD} {n : ℕ} {g : GSem nD τ sig} {u : Unit} (h : 0 < Owed c n g u) : ∃ i, n ≤ i ∧ i < 35 ∧ g = dueCell c i := by
  by_contra hn
  refine absurd h (Nat.not_lt.mpr (Nat.le_of_eq ?_))
  unfold Owed
  rw [Finset.sum_apply, Finsupp.finset_sum_apply]
  refine Finset.sum_eq_zero fun i hi => ?_
  unfold due; rw [tallyAt_apply]
  exact if_neg fun h' => hn ⟨i, (Finset.mem_Ico.mp hi).1, (Finset.mem_Ico.mp hi).2, h'.1⟩

omit [FloatOps F] in
/-- A device may wait on a cell below everything it still owes. -/
theorem mayWait (c : Dev nD) (sm : SemLoc sig) (n : ℕ) (h : lvl sm < if n < 7 then 1 else if n < 21 then 2 else if n < 35 then 3 else 4) :
    (levAts L lv : sProp 𝕄) ⊢ MayWait (c : Thread nD τ) sm () (Owed c n) :=
  MayOwe.of_cut (L := L) (lev := lv) (lvl sm) (fun p hp => by rw [Finset.mem_singleton.mp hp, L_tc]; exact Finset.mem_singleton_self _)
    (fun g u hg => by
      obtain ⟨i, -, -, rfl⟩ := Owed_pos hg
      unfold L; rw [if_pos (due_tc c i)]; exact Finset.mem_singleton_self _)
    (fun p hp => by rw [Finset.mem_singleton.mp hp]; exact Nat.le_refl _)
    (fun g u hg => by
      obtain ⟨i, hn, hi, rfl⟩ := Owed_pos hg
      show lvl sm < lvl (dueCell c i).2
      rw [lvl_due]
      refine lt_of_lt_of_le h ?_
      split_ifs <;> omega)

/-! ## Names of the cells, and the records every device's steps use -/

/-- A device's cells: the barrier's, and the 56 transfers'. -/
abbrev CI : Type := Option (Fin 4 × Fin 2 × Fin 7)
abbrev csem : CI → SemLoc sig
  | none => .reg barS
  | some x => .dma (dsem x.1 x.2.1 x.2.2)
abbrev kcell (ck : Dev nD × CI) : GSem nD τ sig := ((ck.1 : Thread nD τ), csem ck.2)

/-- The invariant of every cell of every device at the names `K`, and that each is at its round 0. -/
def records (K : Dev nD × CI → ℕ) : sProp 𝕄 :=
  iprop((bigSep Finset.univ fun ck : Dev nD × CI => cellInv ER (Rd m ρ) (K ck) (kcell ck))
    ∗ bigSep Finset.univ fun ck : Dev nD × CI => reached ER (kcell ck) 0)

instance records_persistent (K : Dev nD × CI → ℕ) : BI.Persistent (records m ρ K) := by unfold records; infer_instance

theorem inv_at (K : Dev nD × CI → ℕ) (ck : Dev nD × CI) : records m ρ K ⊢ cellInv ER (Rd m ρ) (K ck) (kcell ck) := by
  unfold records
  iintro ⟨H, -⟩
  iapply (show (bigSep Finset.univ fun ck : Dev nD × CI => (cellInv ER (Rd m ρ) (K ck) (kcell ck) : sProp 𝕄)) ⊢ _ from bigSep_elim (Finset.mem_univ ck))
  iexact H
theorem reached_at (K : Dev nD × CI → ℕ) (ck : Dev nD × CI) : records m ρ K ⊢ reached ER (kcell ck) 0 := by
  unfold records
  iintro ⟨-, H⟩
  iapply (show (bigSep Finset.univ fun ck : Dev nD × CI => (reached ER (kcell ck) 0 : sProp 𝕄)) ⊢ _ from bigSep_elim (Finset.mem_univ ck))
  iexact H

/-- Device `c` with its first `n` payments made: the records, the levels, and what it still owes. -/
def Cur (K : Dev nD × CI → ℕ) (c : Dev nD) (n : ℕ) : sProp 𝕄 :=
  iprop(records m ρ K ∗ levAts L lv ∗ ∃ W, owes (c : Thread nD τ) (Owed c n) W)

end Cert.Allreduce
-- ==== Proof.Steps.lean ====
/-
One rule per kind of operation the kernel makes: a signal, the barrier wait, loads and stores of a piece, a copy of the
first and of the second exchange, a wait on a transfer cell. Each is stated for whichever peer, half and slot the
operation is on, and advances the families of `Regions.lean` by one.
-/
module

public import proofs.«01_k».proof.Proof.Schedule

@[expose] public section

noncomputable section

namespace Cert.Allreduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- Device `c` runs program `p`, whose result satisfies `Q`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Pieces opened and closed -/

omit [FloatOps F] in
theorem holds_open (c : Dev nD) {s : Shape} (M : Memref sig .tc .vmem s .f32) (q : PosShare TreeShare) (v : s.Idx → Elt F .f32) :
    holds c M q v ⊢ iprop(∃ f : Buf (Elt F) (M.view.loc (c : Thread nD τ)), ⌜M.view.read (Elt F) f = v⌝ ∗ (M.view.loc (c : Thread nD τ) ↦[M.view.set]{q} f)) :=
  BI.Entails.refl _

omit [FloatOps F] in
theorem holds_close (c : Dev nD) {s : Shape} (M : Memref sig .tc .vmem s .f32) (q : PosShare TreeShare) (v : s.Idx → Elt F .f32)
    (f : Buf (Elt F) (M.view.loc (c : Thread nD τ))) (hf : M.view.read (Elt F) f = v) :
    (M.view.loc (c : Thread nD τ) ↦[M.view.set]{q} f) ⊢ holds c M q v := by
  subst hf; exact owns_intro (c : Thread nD τ) M q f

omit [FloatOps F] in
theorem anyAt_open (c : Dev nD) {s : Shape} (M : Memref sig .tc .vmem s .f32) :
    anyAt c M ⊢ iprop(∃ f : Buf (Elt F) (M.view.loc (c : Thread nD τ)), (M.view.loc (c : Thread nD τ) ↦[M.view.set]{fullShare} f)) := by
  unfold anyAt
  iintro ⟨%v, H⟩
  ihave H := (holds_open c M fullShare v) $$ H
  icases H with ⟨%f, -, H⟩
  iexists f; iexact H

omit [FloatOps F] in
theorem anyAt_intro (c : Dev nD) {s : Shape} (M : Memref sig .tc .vmem s .f32) (v : s.Idx → Elt F .f32) :
    holds c M fullShare v ⊢ anyAt c M := by
  unfold anyAt; iintro H; iexists v; iexact H

omit [FloatOps F] in
/-- A piece rewritten whole reads what was written. -/
theorem holds_written (c : Dev nD) {s : Shape} (M : Memref sig .tc .vmem s .f32) (f : Buf (Elt F) (M.view.loc (c : Thread nD τ)))
    (w : s.Idx → Elt F .f32) :
    (M.view.loc (c : Thread nD τ) ↦[M.view.set]{fullShare} M.view.write (Elt F) f w Finset.univ) ⊢ holds c M fullShare w :=
  holds_close c M fullShare w _ (funext fun j => View.read_write_of_mem _ _ (Finset.mem_univ j))

/-! ## Loads and stores -/

section Mem
variable (c : Dev nD) {α : Type} {Q : α → sProp (MT nD τ sig Unit (Elt F) ℕ UU ℕ)}

/-- A load of a piece reads what it holds. -/
theorem step_load {s : Shape} (M : Memref sig .tc .vmem s .f32) (r : Rect s) (hr : ∀ a, r.stride a = 1) (q : PosShare TreeShare)
    (v : r.shape.Idx → Elt F .f32) {hl : M.view.LoadsAt r.toLoadRect} {k : (r.shape.Idx → Elt F .f32) → Prog (TpuEff nD τ sig (Elt F) Λ₀ .tc) α} :
    holds c (M.slice r hr) q v ⊢ iprop((holds c (M.slice r hr) q v -∗ run c (k v) Q) -∗ run c (.op (.load M r.toLoadRect hl) k) Q) := by
  iintro H Hk
  ihave H := (holds_open c (M.slice r hr) q v) $$ H
  icases H with ⟨%f, %hf, H⟩
  iapply (wp_load_rect 𝒱₀ (c : Thread nD τ) none Set.univ (m := M) (r := r) (f := f) (Finset.Subset.refl _)) $$ H
  iintro H
  rw [show (M.access r).read (Elt F) f = v from hf]
  iapply Hk
  iapply (holds_close c (M.slice r hr) q v f hf); iexact H

/-- A store to a piece leaves it holding what was stored. -/
theorem step_store {s : Shape} (M : Memref sig .tc .vmem s .f32) (r : Rect s) (hr : ∀ a, r.stride a = 1)
    (w : r.shape.Idx → Elt F .f32) {hx : (M.access r).Stores Finset.univ} {hm : (Finset.univ : Finset r.shape.Idx) = Finset.univ ∨ ∀ a, r.stride a = 1}
    {k : PUnit → Prog (TpuEff nD τ sig (Elt F) Λ₀ .tc) α} :
    anyAt c (M.slice r hr) ⊢ iprop((holds c (M.slice r hr) fullShare w -∗ run c (k ⟨⟩) Q)
      -∗ run c (.op (.store M r w Finset.univ hx hm) k) Q) := by
  iintro H Hk
  ihave H := (anyAt_open c (M.slice r hr)) $$ H
  icases H with ⟨%f, H⟩
  iapply (wp_store 𝒱₀ (c : Thread nD τ) none Set.univ (m := M) (r := r) (Mk := Finset.univ) (S := (M.slice r hr).view.set) (f := f)
    (by rw [View.setOn_univ])) $$ H
  iintro H
  iapply Hk
  iapply (holds_written c (M.slice r hr) f w); iexact H

/-- A load of the rows of block `p` of `A`. -/
theorem step_loadA (p : Dev nD) {off : Fin 2 → ℕ} (ho : off = ![64 * p.val, 0]) {inb} {hl}
    {k : (S64x256.Idx → Elt F .f32) → Prog (TpuEff nD τ sig (Elt F) Λ₀ .tc) α} :
    holds c aM fullShare (xa m ρ c) ⊢ iprop((holds c aM fullShare (xa m ρ c) -∗ run c (k (rowsA m ρ c p)) Q)
      -∗ run c (.op (.load aM (Rect.unit (s := S512x256) off S64x256.size inb).toLoadRect hl) k) Q) := by
  subst ho
  iintro H Hk
  ihave H := (holds_open c aM fullShare (xa m ρ c)) $$ H
  icases H with ⟨%f, %hf, H⟩
  iapply (wp_load 𝒱₀ (c : Thread nD τ) none Set.univ (m := aM) (f := f) (by
    rw [show (aM : Memref sig .tc .vmem S512x256 .f32).view.set = Finset.univ from View.set_whole _]; exact Finset.subset_univ _)) $$ H
  iintro H
  rw [show (aM : Memref sig .tc .vmem S512x256 .f32).view.readAt (Elt F) (aR p).toLoadRect f = rowsA m ρ c p from by
    unfold rowsA; rw [← hf]; rfl]
  iapply Hk
  iapply (holds_close c aM fullShare (xa m ρ c) f hf); iexact H

theorem off0 : (![0, 0] : Fin 2 → Nat) = fun _ => 0 := funext fun a => by fin_cases a <;> rfl

/-- A load of the whole block of `B`. -/
theorem step_loadB {inb} {hl} {k : (S256x512.Idx → Elt F .f32) → Prog (TpuEff nD τ sig (Elt F) Λ₀ .tc) α} :
    holds c bM fullShare (xb m ρ c) ⊢ iprop((holds c bM fullShare (xb m ρ c) -∗ run c (k (xb m ρ c)) Q)
      -∗ run c (.op (.load bM (Rect.unit (s := S256x512) ![0, 0] S256x512.size inb).toLoadRect hl) k) Q) := by
  iintro H Hk
  ihave H := (holds_open c bM fullShare (xb m ρ c)) $$ H
  icases H with ⟨%f, %hf, H⟩
  iapply (wp_load 𝒱₀ (c : Thread nD τ) none Set.univ (m := bM) (f := f) (by
    rw [show (bM : Memref sig .tc .vmem S256x512 .f32).view.set = Finset.univ from View.set_whole _]; exact Finset.subset_univ _)) $$ H
  iintro H
  rw [show (bM : Memref sig .tc .vmem S256x512 .f32).view.readAt (Elt F) (Rect.unit (s := S256x512) ![0, 0] S256x512.size inb).toLoadRect f = xb m ρ c from
    (Memref.readAt_unit_zero (Elt F) cc0_stg1_0 off0 _ f).trans hf]
  iapply Hk
  iapply (holds_close c bM fullShare (xb m ρ c) f hf); iexact H

/-- A load of the rows of block `p` of the result, whatever they hold. -/
theorem step_loadRow (p : Dev nD) {off : Fin 2 → ℕ} (ho : off = ![64 * p.val, 0]) {inb} {hl}
    {k : (S64x512.Idx → Elt F .f32) → Prog (TpuEff nD τ sig (Elt F) Λ₀ .tc) α} :
    anyAt c (rowM p) ⊢ iprop((∀ v, anyAt c (rowM p) -∗ run c (k v) Q)
      -∗ run c (.op (.load oM (Rect.unit (s := S512x512) off S64x512.size inb).toLoadRect hl) k) Q) := by
  subst ho
  unfold anyAt
  iintro ⟨%v, H⟩ Hk
  iapply (step_load c oM (rowR p) (fun _ => rfl) fullShare v) $$ H
  iintro H
  iapply Hk
  iexists v; iexact H

/-- A store of a 64x512 value to the rows of block `p`: its halves hold the value's. -/
theorem step_storeRow (p : Dev nD) {off : Fin 2 → ℕ} (ho : off = ![64 * p.val, 0]) {inb} {hx} {hm} (w : S64x512.Idx → Elt F .f32)
    {k : PUnit → Prog (TpuEff nD τ sig (Elt F) Λ₀ .tc) α} :
    anyAt c (rowM p) ⊢ iprop((holds c (halfM p 0) fullShare (cols 0 w) -∗ holds c (halfM p 1) fullShare (cols 1 w) -∗ run c (k ⟨⟩) Q)
      -∗ run c (.op (.store oM (Rect.unit (s := S512x512) off S64x512.size inb) w Finset.univ hx hm) k) Q) := by
  subst ho
  iintro H Hk
  iapply (step_store c oM (rowR p) (fun _ => rfl) w) $$ H
  iintro H
  ihave H := (row_split c p w) $$ H
  icases H with ⟨H0, H1⟩
  iapply Hk $$ H0 H1

/-- A load of half `h` of row block `p` of the result. -/
theorem step_loadHalf (p : Dev nD) (h : Fin 2) {off : Fin 2 → ℕ} (ho : off = ![64 * p.val, 256 * h.val]) (v : S64x256.Idx → Elt F .f32) {inb} {hl}
    {k : (S64x256.Idx → Elt F .f32) → Prog (TpuEff nD τ sig (Elt F) Λ₀ .tc) α} :
    holds c (halfM p h) fullShare v ⊢ iprop((holds c (halfM p h) fullShare v -∗ run c (k v) Q)
      -∗ run c (.op (.load oM (Rect.unit (s := S512x512) off S64x256.size inb).toLoadRect hl) k) Q) := by
  subst ho
  exact step_load c oM (halfR p h) (fun _ => rfl) fullShare v

/-- A store to half `h` of row block `p`. -/
theorem step_storeHalf (p : Dev nD) (h : Fin 2) {off : Fin 2 → ℕ} (ho : off = ![64 * p.val, 256 * h.val]) (v w : S64x256.Idx → Elt F .f32) {inb} {hx} {hm}
    {k : PUnit → Prog (TpuEff nD τ sig (Elt F) Λ₀ .tc) α} :
    holds c (halfM p h) fullShare v ⊢ iprop((holds c (halfM p h) fullShare w -∗ run c (k ⟨⟩) Q)
      -∗ run c (.op (.store oM (Rect.unit (s := S512x512) off S64x256.size inb) w Finset.univ hx hm) k) Q) := by
  subst ho
  iintro H Hk
  ihave H := (anyAt_intro c (halfM p h) v) $$ H
  iapply (step_store c oM (halfR p h) (fun _ => rfl) w) $$ H
  iexact Hk

/-! ### The landing slots -/

omit [FloatOps F] in
/-- A slot holding `v`, seen as the 1x64x256 slice it is the squeeze of. -/
theorem holds_slot (h : Fin 2) (s : Fin 7) (q : PosShare TreeShare) (v : S64x256.Idx → Elt F .f32) :
    holds c (slotM h s) q v = holds c ((lM h).slice (slotR s) (fun _ => rfl)) q (up v) := by
  have hset : (slotM h s).view.set = ((lM h).slice (slotR s) (fun _ => rfl)).view.set := View.set_reshape _ _
  have hread (f : Buf (Elt F) ((slotM h s).view.loc (c : Thread nD τ))) :
      (slotM h s).view.read (Elt F) f
        = fun j => ((lM h).slice (slotR s) (fun _ => rfl)).view.read (Elt F) f (Shape.reshapeEquiv squeezes_S1x64x256_S64x256.numel_eq j) := rfl
  have hiff (f : Buf (Elt F) ((slotM h s).view.loc (c : Thread nD τ))) :
      ((slotM h s).view.read (Elt F) f = v) = (((lM h).slice (slotR s) (fun _ => rfl)).view.read (Elt F) f = up v) := by
    rw [hread f]; unfold up
    refine propext ⟨fun e => funext fun i => ?_, fun e => funext fun j => ?_⟩
    · rw [← e]; simp only [Equiv.apply_symm_apply]
    · rw [e]; simp only [Equiv.symm_apply_apply]
  unfold holds owns
  congr 1; funext f
  exact congrArg₂ (fun A B => iprop(⌜A⌝ ∗ B)) (hiff f) (congrArg (fun S => (slotM h s).view.loc (c : Thread nD τ) ↦[S]{q} f) hset)

/-- A load of slot `s` of half `h`'s landing buffer. -/
theorem step_loadSlot (h : Fin 2) (s : Fin 7) {M : Memref sig .tc .vmem S7x64x256 .f32} (hM : M = lM h) {off : Fin 3 → ℕ} (ho : off = ![s.val, 0, 0])
    (v : S64x256.Idx → Elt F .f32) {inb} {hl}
    {k : (S1x64x256.Idx → Elt F .f32) → Prog (TpuEff nD τ sig (Elt F) Λ₀ .tc) α} :
    holds c (slotM h s) fullShare v ⊢ iprop((holds c (slotM h s) fullShare v -∗ run c (k (up v)) Q)
      -∗ run c (.op (.load M (Rect.unit (s := S7x64x256) off S1x64x256.size inb).toLoadRect hl) k) Q) := by
  subst hM ho
  rw [holds_slot]
  exact step_load c (lM h) (slotR s) (fun _ => rfl) fullShare (up v)

end Mem

/-! ## Signals, copies and waits -/

variable (K : Dev nD × CI → ℕ) (c : Dev nD)

theorem cur_open (n : ℕ) : Cur m ρ K c n ⊢ iprop(records m ρ K ∗ levAts L lv ∗ ∃ W, owes (c : Thread nD τ) (Owed c n) W) := BI.Entails.refl _
theorem cur_close (n : ℕ) (W : Waits sig Unit) : iprop(records m ρ K ∗ levAts L lv ∗ owes (c : Thread nD τ) (Owed c n) W) ⊢ Cur m ρ K c n := by
  unfold Cur
  iintro ⟨H1, H2, H3⟩
  isplitl [H1]; · iexact H1
  isplitl [H2]; · iexact H2
  iexists W; iexact H3

/-- What device `c` signals peer `j` with: the duty's token and its own slots for the peer's copies. -/
def Sig (j : Fin 7) : sProp 𝕄 :=
  iprop(dutyTok ER (bar (peer c j)) 0 j.rev ∗ anyAt (F := F) c (slotM 0 j) ∗ anyAt (F := F) c (slotM 1 j))

/-- What a first-exchange copy to peer `j` needs besides its source: the landing slot and the two duties' tokens. -/
def Ready (h : Fin 2) (j : Fin 7) : sProp 𝕄 :=
  iprop(anyAt (F := F) (peer c j) (slotM h j.rev) ∗ dutyTok ER (cell c 0 h j) 0 0 ∗ dutyTok ER (cell (peer c j) 1 h j.rev) 0 0)
/-- The source of the first-exchange copy to peer `j`: `c`'s part of the peer's row block. -/
def Src (h : Fin 2) (j : Fin 7) : sProp 𝕄 := holds c (halfM (peer c j) h) fullShare (part m ρ c (peer c j) h)
/-- What a second-exchange copy to peer `j` needs. -/
def Back (h : Fin 2) (j : Fin 7) : sProp 𝕄 :=
  iprop(holds c (halfM c h) (shareTok fullShare 7 j) (fin m ρ c h) ∗ anyAt (F := F) (peer c j) (halfM c h)
    ∗ dutyTok ER (cell c 2 h j) 0 0 ∗ dutyTok ER (cell (peer c j) 3 h j.rev) 0 0)
/-- A departure's credit. -/
def Crd (k : Fin 4) (h : Fin 2) (j : Fin 7) : sProp 𝕄 := cred (tallyAt (cell c k h j) () N)
/-- A transfer cell to wait on, -/
def Wt (k : Fin 4) (h : Fin 2) (i : Fin 7) : sProp 𝕄 := iprop(atPos ER (cell c k h i) 0 ∅ 0 ∗ Crd (F := F) c k h i)
/-- and waited on: what it handed over, and its counter back at zero. -/
def Done (k : Fin 4) (h : Fin 2) (i : Fin 7) : sProp 𝕄 := iprop(xferPay m ρ c k h i ∗ semVal (cell c k h i) 0)

variable {α : Type} {Q : α → sProp (MT nD τ sig Unit (Elt F) ℕ UU ℕ)} {k : PUnit → Prog (TpuEff nD τ sig (Elt F) Λ₀ .tc) α}

/-- The signal to peer `n`. -/
theorem step_signal (n : ℕ) (hn : n < 7) {d : Dev nD} (hd : d = peer c ⟨n, hn⟩) {a : ℕ} (ha : a = 1) :
    Cur m ρ K c n ⊢ iprop(seg n 7 (Sig (F := F) c) -∗ (Cur m ρ K c (n + 1) -∗ seg (n + 1) 7 (Sig (F := F) c) -∗ run c (k ⟨⟩) Q)
      -∗ run c (.op (.semSignal (d : Thread nD τ) barS a) k) Q) := by
  subst hd ha
  rw [seg_take n 7 hn hn]
  iintro HC ⟨HS, Hseg⟩ Hk
  ihave HC := (cur_open m ρ K c n) $$ HC
  icases HC with ⟨#HR, #HL, %W, HO⟩
  unfold Sig
  icases HS with ⟨Ht, Ha0, Ha1⟩
  iapply (Rounds.wp_signal 𝒱₀ ER (Rd m ρ) (c : Thread nD τ) none (dst := (peer c ⟨n, hn⟩ : Thread nD τ)) (κ := K (peer c ⟨n, hn⟩, none))
      (d := (⟨n, hn⟩ : Fin 7).rev) (by rw [duties_bar]; exact Finset.mem_univ _) (amount_bar m ρ _ _) () (O₀ := Owed c n) (Owed c (n + 1))
      (by rw [Owed_step c n (by omega), ← due_bar c ⟨n, hn⟩])) $$ [HO Ht Ha0 Ha1]
  · isplitr; · iapply (inv_at m ρ K (peer c ⟨n, hn⟩, none)); iexact HR
    isplitl [HO]; · iexact HO
    isplitl [Ht]; · iexact Ht
    isplitl [Ha0 Ha1]
    · rw [payload_bar]; unfold barPay; rw [peer_rev, Fin.rev_rev]
      isplitl [Ha0] <;> iassumption
    iapply (reached_at m ρ K (peer c ⟨n, hn⟩, none)); iexact HR
  iintro HO
  iapply Hk $$ [HO] Hseg
  iapply (cur_close m ρ K c (n + 1) W)
  isplitr; · iexact HR
  isplitr; · iexact HL
  iexact HO

/-- The wait for all seven peers' signals: every landing slot. -/
theorem step_bar {a : ℕ} (ha : a = 7) :
    Cur m ρ K c 7 ⊢ iprop(iprop(atPos ER (bar c) 0 ∅ 0 ∗ cred (tallyAt (bar c) () 7))
      -∗ (Cur m ρ K c 7 -∗ iprop((bigSep Finset.univ fun i : Fin 7 => barPay (F := F) c i) ∗ semVal (bar c) 0) -∗ run c (k ⟨⟩) Q)
      -∗ run c (.op (.semWait barS a) k) Q) := by
  subst ha
  iintro HC ⟨Hat, Hcr⟩ Hk
  ihave HC := (cur_open m ρ K c 7) $$ HC
  icases HC with ⟨#HR, #HL, %W, HO⟩
  iapply (Rounds.wp_wait_rest_token 𝒱₀ ER (Rd m ρ) (c : Thread nD τ) none (κ := K (c, none))
      (wpE_semWait_eq 𝒱₀ (c : Thread nD τ) none Set.univ) (Set.mem_univ _) () (O := Owed c 7) (W := W) (R := 0) (m := 0) (T := ∅)
      (by rw [expect_bar])) $$ [Hcr HO Hat]
  · isplitr; · iapply (inv_at m ρ K (c, none)); iexact HR
    isplitl [Hcr]; · iexact Hcr
    isplitl [HO]; · iexact HO
    isplitr; · iapply (mayWait (F := F) c (.reg barS) 7 (by decide)); iexact HL
    iexact Hat
  iintro ⟨HO, Hat, -, Hpay⟩
  ihave Hpay := (Entails.of_eq (rest_bar m ρ c)) $$ Hpay
  imod (Rounds.cell_close ER (Rd m ρ) (Set.mem_univ (K (c, none))) (fun h => h) (R := 0 + 1) (duties_later m ρ (bar c))) $$ [Hat] with Hz
  · isplitr; · iapply (inv_at m ρ K (c, none)); iexact HR
    iexact Hat
  iapply Hk $$ [HO] [Hpay Hz]
  · iapply (cur_close m ρ K c 7 (insert (SemLoc.reg barS, ()) W))
    isplitr; · iexact HR
    isplitr; · iexact HL
    iexact HO
  · isplitl [Hpay] <;> iassumption

/-- A wait on a transfer cell, below all that is still owed. -/
theorem step_wait (kk : Fin 4) (h : Fin 2) (σ : Fin 7 → Fin 7) (n : ℕ) (hn : n < 7) (cn : ℕ)
    (hlev : (if kk = 1 then 2 else if kk = 3 then 3 else 0) < if cn < 7 then 1 else if cn < 21 then 2 else if cn < 35 then 3 else 4)
    {s : DmaSem sig} (hs : s = dsem kk h (σ ⟨n, hn⟩)) {sp sp' : Space} {t t' : Shape} {e e' : EltTy} {κ' : Kind}
    {src : Memref sig .tc sp' t' e'} {dst : Memref sig κ' sp t e} {hsrc : src.view.WordExact} {hdst : dst.view.WordExact}
    (hN : dst.view.dmaCredit = N) :
    Cur m ρ K c cn ⊢ iprop(seg n 7 (fun j => Wt (F := F) c kk h (σ j)) -∗ seg 0 n (fun j => Done m ρ c kk h (σ j))
      -∗ (Cur m ρ K c cn -∗ seg (n + 1) 7 (fun j => Wt (F := F) c kk h (σ j)) -∗ seg 0 (n + 1) (fun j => Done m ρ c kk h (σ j)) -∗ run c (k ⟨⟩) Q)
      -∗ run c (.op (.waitDma2 s src dst hsrc hdst) k) Q) := by
  subst hs
  rw [seg_take n 7 hn hn, seg_put 0 n hn (Nat.zero_le _)]
  iintro HC ⟨HW, Hseg⟩ HD Hk
  ihave HC := (cur_open m ρ K c cn) $$ HC
  icases HC with ⟨#HR, #HL, %W, HO⟩
  unfold Wt Crd
  icases HW with ⟨Hat, Hcr⟩
  iapply (Rounds.wp_wait_rest_token 𝒱₀ ER (Rd m ρ) (c : Thread nD τ) none (κ := K (c, some (kk, h, σ ⟨n, hn⟩)))
      (wpE_waitDma2_eq 𝒱₀ (c : Thread nD τ) none Set.univ) (Set.mem_univ _) () (O := Owed c cn) (W := W) (R := 0) (m := 0) (T := ∅)
      (by rw [expect_cell, hN, Nat.zero_add])) $$ [Hcr HO Hat]
  · isplitr; · iapply (inv_at m ρ K (c, some (kk, h, σ ⟨n, hn⟩))); iexact HR
    isplitl [Hcr]; · rw [hN]; iexact Hcr
    isplitl [HO]; · iexact HO
    isplitr; · iapply (mayWait (F := F) c (.dma (dsem kk h (σ ⟨n, hn⟩))) cn (by rw [lvl_cell]; exact hlev)); iexact HL
    iexact Hat
  iintro ⟨HO, Hat, -, Hpay⟩
  ihave Hpay := (Entails.of_eq (rest_cell m ρ c kk h (σ ⟨n, hn⟩))) $$ Hpay
  imod (Rounds.cell_close ER (Rd m ρ) (Set.mem_univ (K (c, some (kk, h, σ ⟨n, hn⟩)))) (fun h => h) (R := 0 + 1)
    (duties_later m ρ (cell c kk h (σ ⟨n, hn⟩)))) $$ [Hat] with Hz
  · isplitr; · iapply (inv_at m ρ K (c, some (kk, h, σ ⟨n, hn⟩))); iexact HR
    iexact Hat
  iapply Hk $$ [HO] Hseg [HD Hpay Hz]
  · iapply (cur_close m ρ K c cn (insert (SemLoc.dma (dsem kk h (σ ⟨n, hn⟩)), ()) W))
    isplitr; · iexact HR
    isplitr; · iexact HL
    iexact HO
  · isplitr [HD]
    · unfold Done; isplitl [Hpay] <;> iassumption
    iexact HD

/-- A copy of the first exchange: `c`'s part of half `h` of peer `n`'s row block, to the peer's slot. -/
theorem step_part (h : Fin 2) (n : ℕ) (hn : n < 7) (b : ℕ) (hb : n < b) (cn : ℕ) (hcn : cn = 7 + 2 * n + h.val)
    {d : Dev nD} (hd : d = peer c ⟨n, hn⟩) {sS sR : DmaSem sig} (hS : sS = dsem 0 h ⟨n, hn⟩) (hR : sR = dsem 1 h (⟨n, hn⟩ : Fin 7).rev)
    {src dst : Memref sig .tc .vmem S64x256 .f32} (hsrc : src = halfM (peer c ⟨n, hn⟩) h) (hdst : dst = slotM h (⟨n, hn⟩ : Fin 7).rev)
    {hsc : dst.view.ref.isScScratch = false} {ws : src.view.WordExact} {wd : dst.view.WordExact}
    {hsem : DmaTarget.Typed .vmem (.dma sR) (.remote (d : Thread nD τ) dst (.dma sS) hsc)} :
    Cur m ρ K c cn ⊢ iprop(seg n b (Src m ρ c h) -∗ seg n 7 (Ready (F := F) c h) -∗ seg 0 n (Crd (F := F) c 0 h)
      -∗ (Cur m ρ K c (cn + 1) -∗ seg (n + 1) b (Src m ρ c h) -∗ seg (n + 1) 7 (Ready (F := F) c h) -∗ seg 0 (n + 1) (Crd (F := F) c 0 h) -∗ run c (k ⟨⟩) Q)
      -∗ run c (.op (.enqueueDma src (.remote (d : Thread nD τ) dst (.dma sS) hsc) (.dma sR) ws wd hsem) k) Q) := by
  subst hd hS hR hsrc hdst
  rw [seg_take n b hn hb, seg_take n 7 hn hn, seg_put 0 n hn (Nat.zero_le _)]
  iintro HC ⟨Hsrc, Hsegs⟩ ⟨HRd, Hsegr⟩ Hcs Hk
  ihave HC := (cur_open m ρ K c cn) $$ HC
  icases HC with ⟨#HR, #HL, %W, HO⟩
  unfold Ready Src
  icases HRd with ⟨Hd, Ht0, Ht1⟩
  ihave Hd := (anyAt_open (peer c ⟨n, hn⟩) (slotM h (⟨n, hn⟩ : Fin 7).rev)) $$ Hd
  icases Hd with ⟨%fd, Hd⟩
  ihave Hsrc := (holds_open c (halfM (peer c ⟨n, hn⟩) h) fullShare (part m ρ c (peer c ⟨n, hn⟩) h)) $$ Hsrc
  icases Hsrc with ⟨%fs, %hfs, Hsrc⟩
  iapply (Rounds.wp_send_landing_pointsTo 𝒱₀ ER (Rd m ρ) (c : Thread nD τ) none (κ₁ := K (c, some (0, h, ⟨n, hn⟩)))
      (κ₂ := K (peer c ⟨n, hn⟩, some (1, h, (⟨n, hn⟩ : Fin 7).rev))) (sS := .dma (dsem 0 h ⟨n, hn⟩))
      (sem := .dma (dsem 1 h (⟨n, hn⟩ : Fin 7).rev)) (r₁ := 0) (r₂ := 0) (d₁ := 0) (d₂ := 0) (fd := fd)
      (by rw [duties_cell]; exact Finset.mem_singleton_self _) (by rw [duties_cell]; exact Finset.mem_singleton_self _) () () N
      (N_slot h _) (amount_cell m ρ c 0 h _ 0) (amount_cell m ρ _ 1 h _ 0) (O₀ := Owed c cn) (Owed c (cn + 1))
      (by rw [Owed_step c cn (by omega), ← due_rs c h ⟨n, hn⟩, hcn]) (W := W)
      (by rw [payload_cell]; exact BI.Entails.refl _)
      (by
        rw [payload_cell]; unfold xferPay; dsimp only; rw [peer_rev, hfs]
        exact BI.sep_mono (holds_written (peer c ⟨n, hn⟩) (slotM h (⟨n, hn⟩ : Fin 7).rev) fd _)
          (holds_close c (halfM (peer c ⟨n, hn⟩) h) fullShare _ fs hfs))) $$ [Hsrc Hd HO Ht0 Ht1]
  · isplitr; · iapply (inv_at m ρ K (c, some (0, h, ⟨n, hn⟩))); iexact HR
    isplitr; · iapply (inv_at m ρ K (peer c ⟨n, hn⟩, some (1, h, (⟨n, hn⟩ : Fin 7).rev))); iexact HR
    isplitl [Hsrc]; · iexact Hsrc
    isplitl [Hd]; · iexact Hd
    isplitl [HO]; · iexact HO
    isplitl [Ht0]; · iexact Ht0
    isplitr; · iapply (reached_at m ρ K (c, some (0, h, ⟨n, hn⟩))); iexact HR
    isplitl [Ht1]; · iexact Ht1
    iapply (reached_at m ρ K (peer c ⟨n, hn⟩, some (1, h, (⟨n, hn⟩ : Fin 7).rev))); iexact HR
  iintro ⟨Hc, HO⟩
  iapply Hk $$ [HO] Hsegs Hsegr [Hcs Hc]
  · iapply (cur_close m ρ K c (cn + 1) W)
    isplitr; · iexact HR
    isplitr; · iexact HL
    iexact HO
  · isplitl [Hc]; · unfold Crd; iexact Hc
    iexact Hcs

/-- A copy of the second exchange: half `h` of `c`'s finished row block, to peer `n`'s result block. -/
theorem step_back (h : Fin 2) (n : ℕ) (hn : n < 7) (cn : ℕ) (hcn : cn = 21 + 7 * h.val + n)
    {d : Dev nD} (hd : d = peer c ⟨n, hn⟩) {sS sR : DmaSem sig} (hS : sS = dsem 2 h ⟨n, hn⟩) (hR : sR = dsem 3 h (⟨n, hn⟩ : Fin 7).rev)
    {src dst : Memref sig .tc .vmem S64x256 .f32} (hsrc : src = halfM c h) (hdst : dst = halfM c h)
    {hsc : dst.view.ref.isScScratch = false} {ws : src.view.WordExact} {wd : dst.view.WordExact}
    {hsem : DmaTarget.Typed .vmem (.dma sR) (.remote (d : Thread nD τ) dst (.dma sS) hsc)} :
    Cur m ρ K c cn ⊢ iprop(seg n 7 (Back m ρ c h) -∗ seg 0 n (Crd (F := F) c 2 h)
      -∗ (Cur m ρ K c (cn + 1) -∗ seg (n + 1) 7 (Back m ρ c h) -∗ seg 0 (n + 1) (Crd (F := F) c 2 h) -∗ run c (k ⟨⟩) Q)
      -∗ run c (.op (.enqueueDma src (.remote (d : Thread nD τ) dst (.dma sS) hsc) (.dma sR) ws wd hsem) k) Q) := by
  subst hd hS hR hsrc hdst
  rw [seg_take n 7 hn hn, seg_put 0 n hn (Nat.zero_le _)]
  iintro HC ⟨HB, Hsegb⟩ Hcs Hk
  ihave HC := (cur_open m ρ K c cn) $$ HC
  icases HC with ⟨#HR, #HL, %W, HO⟩
  unfold Back
  icases HB with ⟨Hsrc, Hd, Ht0, Ht1⟩
  ihave Hd := (anyAt_open (peer c ⟨n, hn⟩) (halfM c h)) $$ Hd
  icases Hd with ⟨%fd, Hd⟩
  ihave Hsrc := (holds_open c (halfM c h) (shareTok fullShare 7 ⟨n, hn⟩) (fin m ρ c h)) $$ Hsrc
  icases Hsrc with ⟨%fs, %hfs, Hsrc⟩
  iapply (Rounds.wp_send_pointsTo 𝒱₀ ER (Rd m ρ) (c : Thread nD τ) none (κ₁ := K (c, some (2, h, ⟨n, hn⟩)))
      (κ₂ := K (peer c ⟨n, hn⟩, some (3, h, (⟨n, hn⟩ : Fin 7).rev))) (sS := .dma (dsem 2 h ⟨n, hn⟩))
      (sem := .dma (dsem 3 h (⟨n, hn⟩ : Fin 7).rev)) (r₁ := 0) (r₂ := 0) (d₁ := 0) (d₂ := 0) (fd := fd)
      (by rw [duties_cell]; exact Finset.mem_singleton_self _) (by rw [duties_cell]; exact Finset.mem_singleton_self _) () () N
      (N_half c h) (amount_cell m ρ c 2 h _ 0) (amount_cell m ρ _ 3 h _ 0) (O₀ := Owed c cn) (Owed c (cn + 1))
      (by rw [Owed_step c cn (by omega), ← due_ag c h ⟨n, hn⟩, hcn]) (W := W)
      (by
        rw [payload_cell]; unfold xferPay; dsimp only
        exact holds_close c (halfM c h) _ _ fs hfs)
      (by
        rw [payload_cell]; unfold xferPay; dsimp only; rw [peer_rev, hfs]
        exact holds_written (peer c ⟨n, hn⟩) (halfM c h) fd _)) $$ [Hsrc Hd HO Ht0 Ht1]
  · isplitr; · iapply (inv_at m ρ K (c, some (2, h, ⟨n, hn⟩))); iexact HR
    isplitr; · iapply (inv_at m ρ K (peer c ⟨n, hn⟩, some (3, h, (⟨n, hn⟩ : Fin 7).rev))); iexact HR
    isplitl [Hsrc]; · iexact Hsrc
    isplitl [Hd]; · iexact Hd
    isplitl [HO]; · iexact HO
    isplitl [Ht0]; · iexact Ht0
    isplitr; · iapply (reached_at m ρ K (c, some (2, h, ⟨n, hn⟩))); iexact HR
    isplitl [Ht1]; · iexact Ht1
    iapply (reached_at m ρ K (peer c ⟨n, hn⟩, some (3, h, (⟨n, hn⟩ : Fin 7).rev))); iexact HR
  iintro ⟨Hc, HO⟩
  iapply Hk $$ [HO] Hsegb [Hcs Hc]
  · iapply (cur_close m ρ K c (cn + 1) W)
    isplitr; · iexact HR
    isplitr; · iexact HL
    iexact HO
  · isplitl [Hc]; · unfold Crd; iexact Hc
    iexact Hcs

end Cert.Allreduce
-- ==== Proof.Phases.lean ====
/-
The kernel's phases as states a device passes through, and one rule per operation on the state of its phase; the
addresses, devices and semaphores the kernel computes, identified.
-/
module

public import proofs.«01_k».proof.Proof.Steps

@[expose] public section

noncomputable section

namespace Cert.Allreduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

local notation "𝕄" => MT nD τ sig Unit (Elt F) ℕ UU ℕ

/-! ## Addresses -/

theorem off1_eq (c : Dev nD) (j : Fin 7) : k0_off1 c (BitVec.ofNat 32 j.val) = ![64 * (peer c j).val, 0] := by revert c j; decide
theorem off2_eq (c : Dev nD) (j : Fin 7) : k0_off2 c (BitVec.ofNat 32 j.val) = ![64 * (peer c j).val, 0] := by revert c j; decide
theorem off3_eq (c : Dev nD) (j : Fin 7) : k0_off3 c (BitVec.ofNat 32 j.val) = ![64 * (peer c j).val, 256 * (0 : Fin 2).val] := by revert c j; decide
theorem off4_eq (c : Dev nD) (j : Fin 7) : k0_off4 c (BitVec.ofNat 32 j.val) = ![64 * (peer c j).val, 256 * (1 : Fin 2).val] := by revert c j; decide

/-- A window of the result block at the address of a piece is the piece. -/
theorem half_at (p : Dev nD) (h : Fin 2) {off : Fin 2 → ℕ} (ho : off = ![64 * p.val, 256 * h.val]) (inb) :
    (oM : Memref sig .tc .vmem S512x512 .f32).slice (Rect.unit (s := S512x512) off S64x256.size inb) (fun _ => rfl) = halfM p h := by
  subst ho; rfl

theorem N_at {off : Fin 2 → ℕ} {inb} : ((oM : Memref sig .tc .vmem S512x512 .f32).slice (Rect.unit (s := S512x512) off S64x256.size inb)
    (fun _ => rfl)).view.dmaCredit = N := rfl

/-! ## Devices -/

theorem dev1_eq (c : Dev nD) : (⟨k0_dev1 c, k0_dev1_lt c⟩ : Dev nD) = peer c 0 := by revert c; decide
theorem dev2_eq (c : Dev nD) : (⟨k0_dev2 c, k0_dev2_lt c⟩ : Dev nD) = peer c 1 := by revert c; decide
theorem dev3_eq (c : Dev nD) : (⟨k0_dev3 c, k0_dev3_lt c⟩ : Dev nD) = peer c 2 := by revert c; decide
theorem dev4_eq (c : Dev nD) : (⟨k0_dev4 c, k0_dev4_lt c⟩ : Dev nD) = peer c 3 := by revert c; decide
theorem dev5_eq (c : Dev nD) : (⟨k0_dev5 c, k0_dev5_lt c⟩ : Dev nD) = peer c 4 := by revert c; decide
theorem dev6_eq (c : Dev nD) : (⟨k0_dev6 c, k0_dev6_lt c⟩ : Dev nD) = peer c 5 := by revert c; decide
theorem dev7_eq (c : Dev nD) : (⟨k0_dev7 c, k0_dev7_lt c⟩ : Dev nD) = peer c 6 := by revert c; decide
theorem dev8_eq (c : Dev nD) : (⟨k0_dev8 c, k0_dev8_lt c⟩ : Dev nD) = peer c 0 := by revert c; decide
theorem dev9_eq (c : Dev nD) : (⟨k0_dev9 c, k0_dev9_lt c⟩ : Dev nD) = peer c 0 := by revert c; decide
theorem dev10_eq (c : Dev nD) : (⟨k0_dev10 c, k0_dev10_lt c⟩ : Dev nD) = peer c 1 := by revert c; decide
theorem dev11_eq (c : Dev nD) : (⟨k0_dev11 c, k0_dev11_lt c⟩ : Dev nD) = peer c 1 := by revert c; decide
theorem dev12_eq (c : Dev nD) : (⟨k0_dev12 c, k0_dev12_lt c⟩ : Dev nD) = peer c 2 := by revert c; decide
theorem dev13_eq (c : Dev nD) : (⟨k0_dev13 c, k0_dev13_lt c⟩ : Dev nD) = peer c 2 := by revert c; decide
theorem dev14_eq (c : Dev nD) : (⟨k0_dev14 c, k0_dev14_lt c⟩ : Dev nD) = peer c 3 := by revert c; decide
theorem dev15_eq (c : Dev nD) : (⟨k0_dev15 c, k0_dev15_lt c⟩ : Dev nD) = peer c 3 := by revert c; decide
theorem dev16_eq (c : Dev nD) : (⟨k0_dev16 c, k0_dev16_lt c⟩ : Dev nD) = peer c 4 := by revert c; decide
theorem dev17_eq (c : Dev nD) : (⟨k0_dev17 c, k0_dev17_lt c⟩ : Dev nD) = peer c 4 := by revert c; decide
theorem dev18_eq (c : Dev nD) : (⟨k0_dev18 c, k0_dev18_lt c⟩ : Dev nD) = peer c 5 := by revert c; decide
theorem dev19_eq (c : Dev nD) : (⟨k0_dev19 c, k0_dev19_lt c⟩ : Dev nD) = peer c 5 := by revert c; decide
theorem dev20_eq (c : Dev nD) : (⟨k0_dev20 c, k0_dev20_lt c⟩ : Dev nD) = peer c 6 := by revert c; decide
theorem dev21_eq (c : Dev nD) : (⟨k0_dev21 c, k0_dev21_lt c⟩ : Dev nD) = peer c 6 := by revert c; decide
theorem dev22_eq (c : Dev nD) : (⟨k0_dev22 c, k0_dev22_lt c⟩ : Dev nD) = peer c 0 := by revert c; decide
theorem dev23_eq (c : Dev nD) : (⟨k0_dev23 c, k0_dev23_lt c⟩ : Dev nD) = peer c 1 := by revert c; decide
theorem dev24_eq (c : Dev nD) : (⟨k0_dev24 c, k0_dev24_lt c⟩ : Dev nD) = peer c 2 := by revert c; decide
theorem dev25_eq (c : Dev nD) : (⟨k0_dev25 c, k0_dev25_lt c⟩ : Dev nD) = peer c 3 := by revert c; decide
theorem dev26_eq (c : Dev nD) : (⟨k0_dev26 c, k0_dev26_lt c⟩ : Dev nD) = peer c 4 := by revert c; decide
theorem dev27_eq (c : Dev nD) : (⟨k0_dev27 c, k0_dev27_lt c⟩ : Dev nD) = peer c 5 := by revert c; decide
theorem dev28_eq (c : Dev nD) : (⟨k0_dev28 c, k0_dev28_lt c⟩ : Dev nD) = peer c 6 := by revert c; decide
theorem dev29_eq (c : Dev nD) : (⟨k0_dev29 c, k0_dev29_lt c⟩ : Dev nD) = peer c 0 := by revert c; decide
theorem dev30_eq (c : Dev nD) : (⟨k0_dev30 c, k0_dev30_lt c⟩ : Dev nD) = peer c 1 := by revert c; decide
theorem dev31_eq (c : Dev nD) : (⟨k0_dev31 c, k0_dev31_lt c⟩ : Dev nD) = peer c 2 := by revert c; decide
theorem dev32_eq (c : Dev nD) : (⟨k0_dev32 c, k0_dev32_lt c⟩ : Dev nD) = peer c 3 := by revert c; decide
theorem dev33_eq (c : Dev nD) : (⟨k0_dev33 c, k0_dev33_lt c⟩ : Dev nD) = peer c 4 := by revert c; decide
theorem dev34_eq (c : Dev nD) : (⟨k0_dev34 c, k0_dev34_lt c⟩ : Dev nD) = peer c 5 := by revert c; decide
theorem dev35_eq (c : Dev nD) : (⟨k0_dev35 c, k0_dev35_lt c⟩ : Dev nD) = peer c 6 := by revert c; decide

variable (m : (ℓ : Loc nD τ sig) → Buf (Elt F) ℓ) (ρ : Dev nD → PrngReg) (K : Dev nD × CI → ℕ) (c : Dev nD)

/-! ## Phases -/

/-- Signalling, the first `n` signals sent. -/
def SSt (n : ℕ) : sProp 𝕄 := iprop(Cur m ρ K c n ∗ seg n 7 (Sig (F := F) c))

/-- The rows of peer `j`'s block before they are computed. -/
def Raw (j : Fin 7) : sProp 𝕄 := anyAt (F := F) c (rowM (peer c j))

/-- Computing: `a` row blocks computed, `b` of their left and `d` of their right halves sent. -/
def MSt (a b d : ℕ) : sProp 𝕄 :=
  iprop(holds c aM fullShare (xa m ρ c) ∗ holds c bM fullShare (xb m ρ c) ∗ seg a 7 (Raw (F := F) c) ∗ seg b a (Src m ρ c 0) ∗ seg d a (Src m ρ c 1))
/-- Copying: the copies of the first exchange, `b` of the left and `d` of the right halves made. -/
def CSt (b d : ℕ) : sProp 𝕄 :=
  iprop(seg b 7 (Ready (F := F) c 0) ∗ seg d 7 (Ready (F := F) c 1) ∗ seg 0 b (Crd (F := F) c 0 0) ∗ seg 0 d (Crd (F := F) c 0 1))
def RSt (a b d : ℕ) : sProp 𝕄 := iprop(Cur m ρ K c (7 + b + d) ∗ MSt m ρ c a b d ∗ CSt (F := F) c b d)

/-- Waiting, owing the payments from `cn` on: the first `n` cells of a kind and half, in the order `σ`, waited for. -/
def WSt (kk : Fin 4) (h : Fin 2) (σ : Fin 7 → Fin 7) (cn n : ℕ) : sProp 𝕄 :=
  iprop(Cur m ρ K c cn ∗ seg n 7 (fun j => Wt (F := F) c kk h (σ j)) ∗ seg 0 n (fun j => Done m ρ c kk h (σ j)))

/-- Sending back half `h`, the first `n` copies made. -/
def ASt (h : Fin 2) (n : ℕ) : sProp 𝕄 :=
  iprop(Cur m ρ K c (21 + 7 * h.val + n) ∗ seg n 7 (Back m ρ c h) ∗ seg 0 n (Crd (F := F) c 2 h))

variable {α : Type} {Q : α → sProp (MT nD τ sig Unit (Elt F) ℕ UU ℕ)} {k : PUnit → Prog (TpuEff nD τ sig (Elt F) Λ₀ .tc) α}

theorem ph_signal (n : ℕ) (hn : n < 7) {d : Dev nD} (hd : d = peer c ⟨n, hn⟩) {a : ℕ} (ha : a = 1) :
    SSt m ρ K c n ⊢ iprop((SSt m ρ K c (n + 1) -∗ run c (k ⟨⟩) Q) -∗ run c (.op (.semSignal (d : Thread nD τ) barS a) k) Q) := by
  unfold SSt
  iintro ⟨HC, HS⟩ Hk
  iapply (step_signal m ρ K c n hn hd ha) $$ HC HS
  iintro HC HS
  iapply Hk
  isplitl [HC] <;> iassumption

/-- The loads that open the computation of a row block. -/
theorem ph_loadA (a b d : ℕ) (ha : a < 7) {off : Fin 2 → ℕ} (ho : off = ![64 * (peer c ⟨a, ha⟩).val, 0]) {inb} {hl}
    {k : (S64x256.Idx → Elt F .f32) → Prog (TpuEff nD τ sig (Elt F) Λ₀ .tc) α} :
    MSt m ρ c a b d ⊢ iprop((MSt m ρ c a b d -∗ run c (k (rowsA m ρ c (peer c ⟨a, ha⟩))) Q)
      -∗ run c (.op (.load aM (Rect.unit (s := S512x256) off S64x256.size inb).toLoadRect hl) k) Q) := by
  unfold MSt
  iintro ⟨HA, HB, HR, H0, H1⟩ Hk
  iapply (step_loadA m ρ c (peer c ⟨a, ha⟩) ho) $$ HA
  iintro HA
  iapply Hk
  isplitl [HA]; · iexact HA
  isplitl [HB]; · iexact HB
  isplitl [HR]; · iexact HR
  isplitl [H0] <;> iassumption

theorem ph_loadB (a b d : ℕ) {inb} {hl} {k : (S256x512.Idx → Elt F .f32) → Prog (TpuEff nD τ sig (Elt F) Λ₀ .tc) α} :
    MSt m ρ c a b d ⊢ iprop((MSt m ρ c a b d -∗ run c (k (xb m ρ c)) Q)
      -∗ run c (.op (.load bM (Rect.unit (s := S256x512) ![0, 0] S256x512.size inb).toLoadRect hl) k) Q) := by
  unfold MSt
  iintro ⟨HA, HB, HR, H0, H1⟩ Hk
  iapply (step_loadB m ρ c) $$ HB
  iintro HB
  iapply Hk
  isplitl [HA]; · iexact HA
  isplitl [HB]; · iexact HB
  isplitl [HR]; · iexact HR
  isplitl [H0] <;> iassumption

theorem ph_loadRow (a b d : ℕ) (ha : a < 7) {off : Fin 2 → ℕ} (ho : off = ![64 * (peer c ⟨a, ha⟩).val, 0]) {inb} {hl}
    {k : (S64x512.Idx → Elt F .f32) → Prog (TpuEff nD τ sig (Elt F) Λ₀ .tc) α} :
    MSt m ρ c a b d ⊢ iprop((∀ v, MSt m ρ c a b d -∗ run c (k v) Q)
      -∗ run c (.op (.load oM (Rect.unit (s := S512x512) off S64x512.size inb).toLoadRect hl) k) Q) := by
  unfold MSt
  rw [seg_take a 7 ha ha]; unfold Raw
  iintro ⟨HA, HB, ⟨HR, HRs⟩, H0, H1⟩ Hk
  iapply (step_loadRow c (peer c ⟨a, ha⟩) ho) $$ HR
  iintro %v HR
  iapply Hk
  isplitl [HA]; · iexact HA
  isplitl [HB]; · iexact HB
  isplitl [HR HRs]; · isplitl [HR] <;> iassumption
  isplitl [H0] <;> iassumption

/-- The store that closes it. -/
theorem ph_storeRow (a b d : ℕ) (ha : a < 7) (hb : b ≤ a) (hd : d ≤ a) {off : Fin 2 → ℕ} (ho : off = ![64 * (peer c ⟨a, ha⟩).val, 0]) {inb} {hx} {hm}
    {w : S64x512.Idx → Elt F .f32} (hw : w = blk m ρ c (peer c ⟨a, ha⟩)) :
    MSt m ρ c a b d ⊢ iprop((MSt m ρ c (a + 1) b d -∗ run c (k ⟨⟩) Q)
      -∗ run c (.op (.store oM (Rect.unit (s := S512x512) off S64x512.size inb) w Finset.univ hx hm) k) Q) := by
  subst hw
  unfold MSt
  rw [seg_take a 7 ha ha, seg_put b a ha hb, seg_put d a ha hd]; unfold Raw Src part
  iintro ⟨HA, HB, ⟨HR, HRs⟩, H0, H1⟩ Hk
  iapply (step_storeRow c (peer c ⟨a, ha⟩) ho (blk m ρ c (peer c ⟨a, ha⟩))) $$ HR
  iintro G0 G1
  iapply Hk
  isplitl [HA]; · iexact HA
  isplitl [HB]; · iexact HB
  isplitl [HRs]; · iexact HRs
  isplitl [H0 G0]; · isplitl [G0] <;> iassumption
  isplitl [G1] <;> iassumption

/-- A row block computed: two loads, a load whose result is not used, and a store. -/
theorem ph_block (a b d : ℕ) (ha : a < 7) (hb : b ≤ a) (hd : d ≤ a) {off off' : Fin 2 → ℕ} (ho : off = ![64 * (peer c ⟨a, ha⟩).val, 0])
    (ho' : off' = ![64 * (peer c ⟨a, ha⟩).val, 0]) {pay : Vec F S64x256 .f32 → Vec F S256x512 .f32 → FVec F S64x512 .f32} (hp : pay = k0_pay1)
    {inb hl inb₁ hl₁ inb₂ hl₂ inb₃ hx hm} :
    MSt m ρ c a b d ⊢ iprop((MSt m ρ c (a + 1) b d -∗ run c (k ⟨⟩) Q)
      -∗ run c (.op (.load aM (Rect.unit (s := S512x256) off S64x256.size inb).toLoadRect hl) fun x =>
          .op (.load bM (Rect.unit (s := S256x512) ![0, 0] S256x512.size inb₁).toLoadRect hl₁) fun y =>
          .op (.load oM (Rect.unit (s := S512x512) off' S64x512.size inb₂).toLoadRect hl₂) fun _ =>
          .op (.store oM (Rect.unit (s := S512x512) off' S64x512.size inb₃) (pay x y) Finset.univ hx hm) k) Q) := by
  iintro H Hk
  iapply (ph_loadA m ρ c a b d ha ho) $$ H
  iintro H
  iapply (ph_loadB m ρ c a b d) $$ H
  iintro H
  iapply (ph_loadRow m ρ c a b d ha ho') $$ H
  iintro %v H
  iapply (ph_storeRow m ρ c a b d ha hb hd ho' (by rw [hp]; rfl)) $$ H
  iexact Hk

/-- A row block computed between the copies. -/
theorem ph_loop (a b d : ℕ) (ha : a < 7) (hb : b ≤ a) (hd : d ≤ a) {off off' : Fin 2 → ℕ} (ho : off = ![64 * (peer c ⟨a, ha⟩).val, 0])
    (ho' : off' = ![64 * (peer c ⟨a, ha⟩).val, 0]) {pay : Vec F S64x256 .f32 → Vec F S256x512 .f32 → FVec F S64x512 .f32} (hp : pay = k0_pay1)
    {inb hl inb₁ hl₁ inb₂ hl₂ inb₃ hx hm} :
    RSt m ρ K c a b d ⊢ iprop((RSt m ρ K c (a + 1) b d -∗ run c (k ⟨⟩) Q)
      -∗ run c (.op (.load aM (Rect.unit (s := S512x256) off S64x256.size inb).toLoadRect hl) fun x =>
          .op (.load bM (Rect.unit (s := S256x512) ![0, 0] S256x512.size inb₁).toLoadRect hl₁) fun y =>
          .op (.load oM (Rect.unit (s := S512x512) off' S64x512.size inb₂).toLoadRect hl₂) fun _ =>
          .op (.store oM (Rect.unit (s := S512x512) off' S64x512.size inb₃) (pay x y) Finset.univ hx hm) k) Q) := by
  unfold RSt
  iintro ⟨HC, HM, HS⟩ Hk
  iapply (ph_block m ρ c a b d ha hb hd ho ho' hp) $$ HM
  iintro HM
  iapply Hk
  isplitl [HC]; · iexact HC
  isplitl [HM] <;> iassumption

/-- The same in two steps: the loads, -/
theorem ph_loads (a b d : ℕ) (ha : a < 7) {off off' : Fin 2 → ℕ} (ho : off = ![64 * (peer c ⟨a, ha⟩).val, 0])
    (ho' : off' = ![64 * (peer c ⟨a, ha⟩).val, 0])
    {k : Vec F S64x256 .f32 → Vec F S256x512 .f32 → Prog (TpuEff nD τ sig (Elt F) Λ₀ .tc) α} {inb hl inb₁ hl₁ inb₂ hl₂} :
    RSt m ρ K c a b d ⊢ iprop((RSt m ρ K c a b d -∗ run c (k (rowsA m ρ c (peer c ⟨a, ha⟩)) (xb m ρ c)) Q)
      -∗ run c (.op (.load aM (Rect.unit (s := S512x256) off S64x256.size inb).toLoadRect hl) fun x =>
          .op (.load bM (Rect.unit (s := S256x512) ![0, 0] S256x512.size inb₁).toLoadRect hl₁) fun y =>
          .op (.load oM (Rect.unit (s := S512x512) off' S64x512.size inb₂).toLoadRect hl₂) fun _ => k x y) Q) := by
  unfold RSt
  iintro ⟨HC, H, HS⟩ Hk
  iapply (ph_loadA m ρ c a b d ha ho) $$ H
  iintro H
  iapply (ph_loadB m ρ c a b d) $$ H
  iintro H
  iapply (ph_loadRow m ρ c a b d ha ho') $$ H
  iintro %v H
  iapply Hk
  isplitl [HC]; · iexact HC
  isplitl [H] <;> iassumption

/-- and the store. -/
theorem ph_keep (a b d : ℕ) (ha : a < 7) (hb : b ≤ a) (hd : d ≤ a) {off : Fin 2 → ℕ} (ho : off = ![64 * (peer c ⟨a, ha⟩).val, 0]) {inb} {hx} {hm}
    {w : S64x512.Idx → Elt F .f32} (hw : w = blk m ρ c (peer c ⟨a, ha⟩)) :
    RSt m ρ K c a b d ⊢ iprop((RSt m ρ K c (a + 1) b d -∗ run c (k ⟨⟩) Q)
      -∗ run c (.op (.store oM (Rect.unit (s := S512x512) off S64x512.size inb) w Finset.univ hx hm) k) Q) := by
  unfold RSt
  iintro ⟨HC, H, HS⟩ Hk
  iapply (ph_storeRow m ρ c a b d ha hb hd ho hw) $$ H
  iintro H
  iapply Hk
  isplitl [HC]; · iexact HC
  isplitl [H] <;> iassumption

/-- A copy of the first exchange, of a left half -/
theorem ph_send0 (a n : ℕ) (hn : n < 7) (hna : n < a)
    {d : Dev nD} (hd : d = peer c ⟨n, hn⟩) {sS sR : DmaSem sig} (hS : sS = dsem 0 0 ⟨n, hn⟩) (hR : sR = dsem 1 0 (⟨n, hn⟩ : Fin 7).rev)
    {src dst : Memref sig .tc .vmem S64x256 .f32} (hsrc : src = halfM (peer c ⟨n, hn⟩) 0) (hdst : dst = slotM 0 (⟨n, hn⟩ : Fin 7).rev)
    {hsc : dst.view.ref.isScScratch = false} {ws : src.view.WordExact} {wd : dst.view.WordExact}
    {hsem : DmaTarget.Typed .vmem (.dma sR) (.remote (d : Thread nD τ) dst (.dma sS) hsc)} :
    RSt m ρ K c a n n ⊢ iprop((RSt m ρ K c a (n + 1) n -∗ run c (k ⟨⟩) Q)
      -∗ run c (.op (.enqueueDma src (.remote (d : Thread nD τ) dst (.dma sS) hsc) (.dma sR) ws wd hsem) k) Q) := by
  unfold RSt MSt CSt
  iintro ⟨HC, ⟨HA, HB, HR, H0, H1⟩, HY0, HY1, HD0, HD1⟩ Hk
  iapply (step_part m ρ K c 0 n hn a hna (7 + n + n) (by show _ = 7 + 2 * n + 0; omega) hd hS hR hsrc hdst) $$ HC H0 HY0 HD0
  iintro HC H0 HY0 HD0
  iapply Hk
  isplitl [HC]; · rw [show 7 + (n + 1) + n = 7 + n + n + 1 by omega]; iexact HC
  isplitl [HA HB HR H0 H1]
  · isplitl [HA]; · iexact HA
    isplitl [HB]; · iexact HB
    isplitl [HR]; · iexact HR
    isplitl [H0] <;> iassumption
  isplitl [HY0]; · iexact HY0
  isplitl [HY1]; · iexact HY1
  isplitl [HD0] <;> iassumption

/-- and of a right half. -/
theorem ph_send1 (a n : ℕ) (hn : n < 7) (hna : n < a)
    {d : Dev nD} (hd : d = peer c ⟨n, hn⟩) {sS sR : DmaSem sig} (hS : sS = dsem 0 1 ⟨n, hn⟩) (hR : sR = dsem 1 1 (⟨n, hn⟩ : Fin 7).rev)
    {src dst : Memref sig .tc .vmem S64x256 .f32} (hsrc : src = halfM (peer c ⟨n, hn⟩) 1) (hdst : dst = slotM 1 (⟨n, hn⟩ : Fin 7).rev)
    {hsc : dst.view.ref.isScScratch = false} {ws : src.view.WordExact} {wd : dst.view.WordExact}
    {hsem : DmaTarget.Typed .vmem (.dma sR) (.remote (d : Thread nD τ) dst (.dma sS) hsc)} :
    RSt m ρ K c a (n + 1) n ⊢ iprop((RSt m ρ K c a (n + 1) (n + 1) -∗ run c (k ⟨⟩) Q)
      -∗ run c (.op (.enqueueDma src (.remote (d : Thread nD τ) dst (.dma sS) hsc) (.dma sR) ws wd hsem) k) Q) := by
  unfold RSt MSt CSt
  iintro ⟨HC, ⟨HA, HB, HR, H0, H1⟩, HY0, HY1, HD0, HD1⟩ Hk
  iapply (step_part m ρ K c 1 n hn a hna (7 + (n + 1) + n) (by show _ = 7 + 2 * n + 1; omega) hd hS hR hsrc hdst) $$ HC H1 HY1 HD1
  iintro HC H1 HY1 HD1
  iapply Hk
  isplitl [HC]; · rw [show 7 + (n + 1) + (n + 1) = 7 + (n + 1) + n + 1 by omega]; iexact HC
  isplitl [HA HB HR H0 H1]
  · isplitl [HA]; · iexact HA
    isplitl [HB]; · iexact HB
    isplitl [HR]; · iexact HR
    isplitl [H0] <;> iassumption
  isplitl [HY0]; · iexact HY0
  isplitl [HY1]; · iexact HY1
  isplitl [HD0] <;> iassumption

/-- A wait. -/
theorem ph_wait (kk : Fin 4) (h : Fin 2) (σ : Fin 7 → Fin 7) (cn n : ℕ) (hn : n < 7)
    (hlev : (if kk = 1 then 2 else if kk = 3 then 3 else 0) < if cn < 7 then 1 else if cn < 21 then 2 else if cn < 35 then 3 else 4)
    {s : DmaSem sig} (hs : s = dsem kk h (σ ⟨n, hn⟩)) {sp sp' : Space} {t t' : Shape} {e e' : EltTy} {κ' : Kind}
    {src : Memref sig .tc sp' t' e'} {dst : Memref sig κ' sp t e} {hsrc : src.view.WordExact} {hdst : dst.view.WordExact}
    (hN : dst.view.dmaCredit = N) :
    WSt m ρ K c kk h σ cn n ⊢ iprop((WSt m ρ K c kk h σ cn (n + 1) -∗ run c (k ⟨⟩) Q)
      -∗ run c (.op (.waitDma2 s src dst hsrc hdst) k) Q) := by
  unfold WSt
  iintro ⟨HC, HW, HD⟩ Hk
  iapply (step_wait m ρ K c kk h σ n hn cn hlev hs hN) $$ HC HW HD
  iintro HC HW HD
  iapply Hk
  isplitl [HC]; · iexact HC
  isplitl [HW] <;> iassumption

/-- A copy of the second exchange. -/
theorem ph_back (h : Fin 2) (n : ℕ) (hn : n < 7)
    {d : Dev nD} (hd : d = peer c ⟨n, hn⟩) {sS sR : DmaSem sig} (hS : sS = dsem 2 h ⟨n, hn⟩) (hR : sR = dsem 3 h (⟨n, hn⟩ : Fin 7).rev)
    {src dst : Memref sig .tc .vmem S64x256 .f32} (hsrc : src = halfM c h) (hdst : dst = halfM c h)
    {hsc : dst.view.ref.isScScratch = false} {ws : src.view.WordExact} {wd : dst.view.WordExact}
    {hsem : DmaTarget.Typed .vmem (.dma sR) (.remote (d : Thread nD τ) dst (.dma sS) hsc)} :
    ASt m ρ K c h n ⊢ iprop((ASt m ρ K c h (n + 1) -∗ run c (k ⟨⟩) Q)
      -∗ run c (.op (.enqueueDma src (.remote (d : Thread nD τ) dst (.dma sS) hsc) (.dma sR) ws wd hsem) k) Q) := by
  unfold ASt
  iintro ⟨HC, HB, HD⟩ Hk
  iapply (step_back m ρ K c h n hn (21 + 7 * h.val + n) rfl hd hS hR hsrc hdst) $$ HC HB HD
  iintro HC HB HD
  iapply Hk
  isplitl [HC]; · iexact HC
  isplitl [HB] <;> iassumption

/-- The own row block computed: two loads, a load whose result is not used, and a store. -/
theorem ph_own (a b d : ℕ) {off off' : Fin 2 → ℕ} (ho : off = ![64 * c.val, 0])
    (ho' : off' = ![64 * c.val, 0]) {pay : Vec F S64x256 .f32 → Vec F S256x512 .f32 → FVec F S64x512 .f32} (hp : pay = k0_pay1)
    {inb hl inb₁ hl₁ inb₂ hl₂ inb₃ hx hm} :
    RSt m ρ K c a b d ⊢ iprop(anyAt c (rowM c) -∗ (iprop(RSt m ρ K c a b d ∗ holds c (halfM c 0) fullShare (part m ρ c c 0)
        ∗ holds c (halfM c 1) fullShare (part m ρ c c 1)) -∗ run c (k ⟨⟩) Q)
      -∗ run c (.op (.load aM (Rect.unit (s := S512x256) off S64x256.size inb).toLoadRect hl) fun x =>
          .op (.load bM (Rect.unit (s := S256x512) ![0, 0] S256x512.size inb₁).toLoadRect hl₁) fun y =>
          .op (.load oM (Rect.unit (s := S512x512) off' S64x512.size inb₂).toLoadRect hl₂) fun _ =>
          .op (.store oM (Rect.unit (s := S512x512) off' S64x512.size inb₃) (pay x y) Finset.univ hx hm) k) Q) := by
  subst hp
  unfold RSt MSt part
  iintro ⟨HC, ⟨HA, HB, HM⟩, HS⟩ HR Hk
  iapply (step_loadA m ρ c c ho) $$ HA
  iintro HA
  iapply (step_loadB m ρ c) $$ HB
  iintro HB
  iapply (step_loadRow c c ho') $$ HR
  iintro %v HR
  iapply (step_storeRow c c ho' (blk m ρ c c)) $$ HR
  iintro G0 G1
  iapply Hk
  isplitl [HC HA HB HM HS]
  · isplitl [HC]; · iexact HC
    isplitl [HA HB HM]
    · isplitl [HA]; · iexact HA
      isplitl [HB] <;> iassumption
    iexact HS
  isplitl [G0] <;> iassumption

/-! ## Adding up -/

/-- The landing slots with the peers' parts of half `h`, -/
def Slots (h : Fin 2) : sProp 𝕄 := bigSep Finset.univ fun s : Fin 7 => holds c (slotM h s) fullShare (part m ρ (peer c s) c h)
/-- the pieces of the peers' result blocks that these parts came from, -/
def Dst (h : Fin 2) : sProp 𝕄 := bigSep Finset.univ fun s : Fin 7 => holds (peer c s) (halfM c h) fullShare (part m ρ (peer c s) c h)
/-- and the counters of a kind's cells, back at zero. -/
def Zero (kk : Fin 4) (h : Fin 2) : sProp 𝕄 := bigSep Finset.univ fun i : Fin 7 => semVal (cell c kk h i) 0

/-- Adding up half `h`, of which the own piece holds `v`. -/
def AccSt (cn : ℕ) (h : Fin 2) (v : S64x256.Idx → Elt F .f32) : sProp 𝕄 :=
  iprop(Cur m ρ K c cn ∗ holds c (halfM c h) fullShare v ∗ Slots m ρ c h ∗ Dst m ρ c h ∗ Zero (F := F) c 1 h)

theorem acc_intro (cn : ℕ) (h : Fin 2) (v : S64x256.Idx → Elt F .f32) :
    iprop(WSt m ρ K c 1 h Fin.rev cn 7 ∗ holds c (halfM c h) fullShare v) ⊢ AccSt m ρ K c cn h v := by
  unfold WSt AccSt Slots Dst Zero
  rw [seg_nil, seg_all, bigSep_rev fun j => Done m ρ c 1 h j]
  show iprop((_ ∗ _ ∗ bigSep Finset.univ fun j : Fin 7 => iprop((holds c (slotM h j) fullShare (part m ρ (peer c j) c h)
    ∗ holds (peer c j) (halfM c h) fullShare (part m ρ (peer c j) c h)) ∗ semVal (cell c 1 h j) 0)) ∗ _) ⊢ _
  rw [bigSep_sep', bigSep_sep']
  iintro ⟨⟨HC, HE, ⟨HS, HD⟩, HZ⟩, HO⟩
  isplitl [HC]; · iexact HC
  isplitl [HO]; · iexact HO
  isplitl [HS]; · iexact HS
  isplitl [HD] <;> iassumption

omit [FloatOps F] in
theorem bigSep_at (s : Fin 7) (Φ : Fin 7 → sProp 𝕄) : bigSep Finset.univ Φ = iprop(Φ s ∗ bigSep (Finset.univ.erase s) Φ) :=
  BI.bigSep_erase (Finset.mem_univ s)

/-- A load of a slot, -/
theorem ph_slot (cn : ℕ) (h : Fin 2) (v : S64x256.Idx → Elt F .f32) (s : Fin 7) {M : Memref sig .tc .vmem S7x64x256 .f32} (hM : M = lM h)
    {off : Fin 3 → ℕ} (ho : off = ![s.val, 0, 0]) {inb} {hl} {k : (S1x64x256.Idx → Elt F .f32) → Prog (TpuEff nD τ sig (Elt F) Λ₀ .tc) α} :
    AccSt m ρ K c cn h v ⊢ iprop((AccSt m ρ K c cn h v -∗ run c (k (up (part m ρ (peer c s) c h))) Q)
      -∗ run c (.op (.load M (Rect.unit (s := S7x64x256) off S1x64x256.size inb).toLoadRect hl) k) Q) := by
  unfold AccSt Slots
  rw [bigSep_at s]
  iintro ⟨HC, HO, ⟨HS, HSs⟩, HD⟩ Hk
  iapply (step_loadSlot c h s hM ho (part m ρ (peer c s) c h)) $$ HS
  iintro HS
  iapply Hk
  isplitl [HC]; · iexact HC
  isplitl [HO]; · iexact HO
  isplitl [HS HSs]
  · isplitl [HS] <;> iassumption
  iexact HD

/-- a load of the own piece, -/
theorem ph_accLoad (cn : ℕ) (h : Fin 2) (v : S64x256.Idx → Elt F .f32) {off : Fin 2 → ℕ} (ho : off = ![64 * c.val, 256 * h.val]) {inb} {hl}
    {k : (S64x256.Idx → Elt F .f32) → Prog (TpuEff nD τ sig (Elt F) Λ₀ .tc) α} :
    AccSt m ρ K c cn h v ⊢ iprop((AccSt m ρ K c cn h v -∗ run c (k v) Q)
      -∗ run c (.op (.load oM (Rect.unit (s := S512x512) off S64x256.size inb).toLoadRect hl) k) Q) := by
  unfold AccSt
  iintro ⟨HC, HO, HS⟩ Hk
  iapply (step_loadHalf c c h ho v) $$ HO
  iintro HO
  iapply Hk
  isplitl [HC]; · iexact HC
  isplitl [HO] <;> iassumption

/-- and a store to it. -/
theorem ph_accStore (cn : ℕ) (h : Fin 2) (v w : S64x256.Idx → Elt F .f32) {off : Fin 2 → ℕ} (ho : off = ![64 * c.val, 256 * h.val]) {inb} {hx} {hm} :
    AccSt m ρ K c cn h v ⊢ iprop((AccSt m ρ K c cn h w -∗ run c (k ⟨⟩) Q)
      -∗ run c (.op (.store oM (Rect.unit (s := S512x512) off S64x256.size inb) w Finset.univ hx hm) k) Q) := by
  unfold AccSt
  iintro ⟨HC, HO, HS⟩ Hk
  iapply (step_storeHalf c c h ho v w) $$ HO
  iintro HO
  iapply Hk
  isplitl [HC]; · iexact HC
  isplitl [HO] <;> iassumption

/-! ## From the cells of the left half to those of the right -/

/-- The right half's cells of a kind, to wait on, -/
def Wts (kk : Fin 4) (h : Fin 2) (σ : Fin 7 → Fin 7) : sProp 𝕄 := seg 0 7 fun j => Wt (F := F) c kk h (σ j)
/-- and waited on. -/
def Dones (kk : Fin 4) (h : Fin 2) (σ : Fin 7 → Fin 7) : sProp 𝕄 := seg 0 7 fun j => Done m ρ c kk h (σ j)

theorem wst_intro (kk : Fin 4) (h : Fin 2) (σ : Fin 7 → Fin 7) (cn : ℕ) : iprop(Cur m ρ K c cn ∗ Wts (F := F) c kk h σ) ⊢ WSt m ρ K c kk h σ cn 0 := by
  unfold WSt Wts
  rw [seg_nil]
  iintro ⟨HC, HW⟩
  isplitl [HC]; · iexact HC
  isplitl [HW]; · iexact HW
  iempintro

theorem wst_elim (kk : Fin 4) (h : Fin 2) (σ : Fin 7 → Fin 7) (cn : ℕ) : WSt m ρ K c kk h σ cn 7 ⊢ iprop(Cur m ρ K c cn ∗ Dones m ρ c kk h σ) := by
  unfold WSt Dones
  iintro ⟨HC, -, HD⟩
  isplitl [HC] <;> iassumption

theorem wst_next (kk : Fin 4) (σ : Fin 7 → Fin 7) (cn : ℕ) : iprop(WSt m ρ K c kk 0 σ cn 7 ∗ Wts (F := F) c kk 1 σ)
    ⊢ iprop(WSt m ρ K c kk 1 σ cn 0 ∗ Dones m ρ c kk 0 σ) := by
  iintro ⟨HW, HW'⟩
  ihave HW := (wst_elim m ρ K c kk 0 σ cn) $$ HW
  icases HW with ⟨HC, HD⟩
  isplitl [HC HW']
  · iapply (wst_intro m ρ K c kk 1 σ cn)
    isplitl [HC] <;> iassumption
  iexact HD

end Cert.Allreduce
-- ==== Proof.Parts.lean ====
/-
What each stretch of the kernel's text does to the state of its phase.
-/
module

public import proofs.«01_k».proof.Proof.Phases

@[expose] public section

noncomputable section

namespace Cert.Allreduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

local notation "𝕄" => MT nD τ sig Unit (Elt F) ℕ UU ℕ

/-- A stretch of the kernel's text on the buffers and semaphores the kernel runs on. -/
abbrev onArgs {β : Type 1} (f : (arg0 : Memref sig .tc .vmem S512x256 .f32) → arg0.IsWhole → (arg1 : Memref sig .tc .vmem S256x512 .f32) → arg1.IsWhole
    → (arg2 : Memref sig .tc .vmem S512x512 .f32) → arg2.IsWhole → (arg3 : Memref sig .tc .vmem S7x64x256 .f32) → arg3.IsWhole
    → (arg4 : Memref sig .tc .vmem S7x64x256 .f32) → arg4.IsWhole → DmaSems sig S14 → DmaSems sig S14 → DmaSems sig S14 → DmaSems sig S14 → β) : β :=
  f aM (Memref.isWhole_whole _) bM (Memref.isWhole_whole _) oM (Memref.isWhole_whole _) (Memref.whole cc0_scratch0) (Memref.isWhole_whole _)
    (Memref.whole cc0_scratch1) (Memref.isWhole_whole _) cc0_scratch2 cc0_scratch3 cc0_scratch4 cc0_scratch5

/-- The barrier's semaphore. -/
abbrev barA : Sems sig S_ := SemArray.scalar (sig.barrier 0 rfl)

variable (m : (ℓ : Loc nD τ sig) → Buf (Elt F) ℓ) (ρ : Dev nD → PrngReg) (K : Dev nD × CI → ℕ) (c : Dev nD)

/-- A program that has ended. -/
theorem ret_intro {α : Type} {Q : α → sProp (MT nD τ sig Unit (Elt F) ℕ UU ℕ)} {a : α} : Q a ⊢ run c (.ret a) Q := by
  show _ ⊢ wp _ _ _ _ _
  rw [wp_ret]
  exact fupd_intro

/-! ## Signals -/

theorem part1_spec (Q) : SSt m ρ K c 0 ⊢ iprop((∀ v v' w z, SSt m ρ K c 2 -∗ Q ⟨c, v, barA, v', w, z⟩) -∗ run c (onArgs (k0_part1 (F := F))) Q) := by
  rw [k0_part1_eq_skeleton]; unfold k0_part1_skel
  simp only [onArgs, semSignalWord, semWaitWord, Prog.lift, Prog.bind_op, Prog.bind_ret, Prog.pure_eq_ret, wp_deviceId]
  iintro H Hk
  iapply (ph_signal m ρ K c 0 (by decide) (dev1_eq c) rfl) $$ H
  iintro H
  iapply (ph_signal m ρ K c 1 (by decide) (dev2_eq c) rfl) $$ H
  iintro H
  iapply ret_intro
  iapply Hk
  iexact H

theorem part2_spec (v2 v30 w z Q) : SSt m ρ K c 2 ⊢ iprop((∀ x, SSt m ρ K c 4 -∗ Q x) -∗ run c (onArgs (k0_part2 (F := F)) c v2 barA v30 w z) Q) := by
  rw [k0_part2_eq_skeleton]; unfold k0_part2_skel
  simp only [onArgs, semSignalWord, semWaitWord, Prog.lift, Prog.bind_op, Prog.bind_ret, Prog.pure_eq_ret, wp_deviceId]
  iintro H Hk
  iapply (ph_signal m ρ K c 2 (by decide) (dev3_eq c) rfl) $$ H
  iintro H
  iapply (ph_signal m ρ K c 3 (by decide) (dev4_eq c) rfl) $$ H
  iintro H
  iapply ret_intro
  iapply Hk
  iexact H

theorem part3_spec (v2 v59 v64 v65 Q) : SSt m ρ K c 4 ⊢ iprop((∀ x, SSt m ρ K c 7 -∗ Q x) -∗ run c (onArgs (k0_part3 (F := F)) c v2 barA v59 v64 v65) Q) := by
  rw [k0_part3_eq_skeleton]; unfold k0_part3_skel
  simp only [onArgs, semSignalWord, semWaitWord, Prog.lift, Prog.bind_op, Prog.bind_ret, Prog.pure_eq_ret, wp_deviceId]
  iintro H Hk
  iapply (ph_signal m ρ K c 4 (by decide) (dev5_eq c) rfl) $$ H
  iintro H
  iapply (ph_signal m ρ K c 5 (by decide) (dev6_eq c) rfl) $$ H
  iintro H
  iapply (ph_signal m ρ K c 6 (by decide) (dev7_eq c) rfl) $$ H
  iintro H
  iapply ret_intro
  iapply Hk
  iexact H

/-! ## The barrier and the first exchange -/

/-- The duties of the two cells that the copy of half `h` to peer `j` pays. -/
def Tok (h : Fin 2) (j : Fin 7) : sProp 𝕄 := iprop(dutyTok ER (cell c 0 h j) 0 0 ∗ dutyTok ER (cell (peer c j) 1 h j.rev) 0 0)

/-- The peers' slots, handed over at the barrier, and the duties of the first exchange's copies make the copies ready. -/
theorem ready_intro : iprop((bigSep Finset.univ fun i => barPay (F := F) c i) ∗ (bigSep Finset.univ fun j => Tok (F := F) c 0 j)
    ∗ bigSep Finset.univ fun j => Tok (F := F) c 1 j) ⊢ CSt (F := F) c 0 0 := by
  unfold CSt barPay Tok
  rw [seg_nil, seg_all, seg_all]
  unfold Ready
  simp only [bigSep_sep', seg_nil]
  iintro ⟨⟨HS0, HS1⟩, ⟨T0, T0'⟩, T1, T1'⟩
  isplitl [HS0 T0 T0']
  · isplitl [HS0]; · iexact HS0
    isplitl [T0] <;> iassumption
  isplitl [HS1 T1 T1']
  · isplitl [HS1]; · iexact HS1
    isplitl [T1] <;> iassumption
  isplitr; · iempintro
  iempintro

theorem rst_intro (a : ℕ) : iprop(Cur m ρ K c 7 ∗ MSt m ρ c a 0 0 ∗ (bigSep Finset.univ fun i => barPay (F := F) c i)
    ∗ (bigSep Finset.univ fun j => Tok (F := F) c 0 j) ∗ bigSep Finset.univ fun j => Tok (F := F) c 1 j) ⊢ RSt m ρ K c a 0 0 := by
  unfold RSt
  exact sep_mono_right (sep_mono_right (ready_intro c))

theorem part4_spec (v96 w Q) :
    iprop(Cur m ρ K c 7 ∗ MSt m ρ c 0 0 0 ∗ (atPos ER (bar c) 0 ∅ 0 ∗ cred (tallyAt (bar c) () 7))
      ∗ (bigSep Finset.univ fun j => Tok (F := F) c 0 j) ∗ bigSep Finset.univ fun j => Tok (F := F) c 1 j)
    ⊢ iprop((∀ x, RSt m ρ K c 1 1 0 -∗ semVal (bar c) 0 -∗ Q x) -∗ run c (onArgs (k0_part4 (F := F)) c barA v96 w) Q) := by
  rw [k0_part4_eq_skeleton]; unfold k0_part4_skel
  simp only [onArgs, semSignalWord, semWaitWord, Prog.lift, Prog.bind_op, Prog.bind_ret, Prog.pure_eq_ret, wp_deviceId]
  iintro ⟨HC, HM, HB, HT⟩ Hk
  iapply (ph_block m ρ c 0 0 0 (by decide) (by decide) (by decide) (off1_eq c 0) (off2_eq c 0) rfl) $$ HM
  iintro HM
  iapply (step_bar m ρ K c rfl) $$ HC HB
  iintro HC ⟨HS, HV⟩
  ihave H := (rst_intro m ρ K c 1) $$ [HC HM HS HT]
  · isplitl [HC]; · iexact HC
    isplitl [HM]; · iexact HM
    isplitl [HS] <;> iassumption
  iapply (ph_send0 m ρ K c 1 0 (by decide) (by decide) (dev8_eq c) rfl rfl (half_at _ _ (off3_eq c 0) _) rfl) $$ H
  iintro H
  iapply ret_intro
  iapply Hk $$ H HV

theorem part5_spec (v2 Q): RSt m ρ K c 1 1 0
    ⊢ iprop((∀ x, RSt m ρ K c 2 1 1 -∗ Q x) -∗ run c (onArgs (k0_part5 (F := F)) c v2) Q) := by
  rw [k0_part5_eq_skeleton]; unfold k0_part5_skel
  simp only [onArgs, semSignalWord, semWaitWord, Prog.lift, Prog.bind_op, Prog.bind_ret, Prog.pure_eq_ret, wp_deviceId]
  iintro H Hk
  iapply (ph_send1 m ρ K c 1 0 (by decide) (by decide) (dev9_eq c) rfl rfl (half_at _ _ (off4_eq c 0) _) rfl) $$ H
  iintro H
  iapply (ph_loop m ρ K c 1 1 1 (by decide) (by decide) (by decide) (off1_eq c 1) (off2_eq c 1) rfl) $$ H
  iintro H
  iapply ret_intro
  iapply Hk
  iexact H

theorem part6_spec (v2 v146 Q) : RSt m ρ K c 2 1 1 ⊢ iprop((∀ v, RSt m ρ K c 2 2 2 -∗ Q ⟨v, k0_pay3 (rowsA m ρ c (peer c ⟨2, by decide⟩)) (xb m ρ c)⟩) -∗ run c (onArgs (k0_part6 (F := F)) c v2 v146) Q) := by
  rw [k0_part6_eq_skeleton]; unfold k0_part6_skel
  simp only [onArgs, semSignalWord, semWaitWord, Prog.lift, Prog.bind_op, Prog.bind_ret, Prog.pure_eq_ret, wp_deviceId]
  iintro H Hk
  iapply (ph_send0 m ρ K c 2 1 (by decide) (by decide) (dev10_eq c) rfl rfl (half_at _ _ (off3_eq c 1) _) rfl) $$ H
  iintro H
  iapply (ph_send1 m ρ K c 2 1 (by decide) (by decide) (dev11_eq c) rfl rfl (half_at _ _ (off4_eq c 1) _) rfl) $$ H
  iintro H
  iapply (ph_loads m ρ K c 2 2 2 (by decide) (off1_eq c 2) (off2_eq c 2)) $$ H
  iintro H
  iapply ret_intro
  iapply Hk
  iexact H

theorem part7_spec (v2 v186 Q) : RSt m ρ K c 2 2 2 ⊢ iprop((∀ x, RSt m ρ K c 3 3 3 -∗ Q x) -∗ run c (onArgs (k0_part7 (F := F)) c v2 v186 (k0_pay3 (rowsA m ρ c (peer c ⟨2, by decide⟩)) (xb m ρ c))) Q) := by
  rw [k0_part7_eq_skeleton]; unfold k0_part7_skel
  simp only [onArgs, semSignalWord, semWaitWord, Prog.lift, Prog.bind_op, Prog.bind_ret, Prog.pure_eq_ret, wp_deviceId]
  iintro H Hk
  iapply (ph_keep m ρ K c 2 2 2 (by decide) (by decide) (by decide) (off2_eq c 2) rfl) $$ H
  iintro H
  iapply (ph_send0 m ρ K c 3 2 (by decide) (by decide) (dev12_eq c) rfl rfl (half_at _ _ (off3_eq c 2) _) rfl) $$ H
  iintro H
  iapply (ph_send1 m ρ K c 3 2 (by decide) (by decide) (dev13_eq c) rfl rfl (half_at _ _ (off4_eq c 2) _) rfl) $$ H
  iintro H
  iapply ret_intro
  iapply Hk
  iexact H

theorem part8_spec (v2 v226 v228 Q) : RSt m ρ K c 3 3 3
    ⊢ iprop((∀ x, RSt m ρ K c 4 4 4 -∗ Q x) -∗ run c (onArgs (k0_part8 (F := F)) c v2 v226 v228) Q) := by
  rw [k0_part8_eq_skeleton]; unfold k0_part8_skel
  simp only [onArgs, semSignalWord, semWaitWord, Prog.lift, Prog.bind_op, Prog.bind_ret, Prog.pure_eq_ret, wp_deviceId]
  iintro H Hk
  iapply (ph_loop m ρ K c 3 3 3 (by decide) (by decide) (by decide) (off1_eq c 3) (off2_eq c 3) rfl) $$ H
  iintro H
  iapply (ph_send0 m ρ K c 4 3 (by decide) (by decide) (dev14_eq c) rfl rfl (half_at _ _ (off3_eq c 3) _) rfl) $$ H
  iintro H
  iapply (ph_send1 m ρ K c 4 3 (by decide) (by decide) (dev15_eq c) rfl rfl (half_at _ _ (off4_eq c 3) _) rfl) $$ H
  iintro H
  iapply ret_intro
  iapply Hk
  iexact H

theorem part9_spec (v258 v259 Q) : RSt m ρ K c 4 4 4
    ⊢ iprop((∀ x, RSt m ρ K c 5 5 4 -∗ Q x) -∗ run c (onArgs (k0_part9 (F := F)) c v258 v259) Q) := by
  rw [k0_part9_eq_skeleton]; unfold k0_part9_skel
  simp only [onArgs, semSignalWord, semWaitWord, Prog.lift, Prog.bind_op, Prog.bind_ret, Prog.pure_eq_ret, wp_deviceId]
  iintro H Hk
  iapply (ph_loop m ρ K c 4 4 4 (by decide) (by decide) (by decide) (off1_eq c 4) (off2_eq c 4) rfl) $$ H
  iintro H
  iapply (ph_send0 m ρ K c 5 4 (by decide) (by decide) (dev16_eq c) rfl rfl (half_at _ _ (off3_eq c 4) _) rfl) $$ H
  iintro H
  iapply ret_intro
  iapply Hk
  iexact H

theorem part10_spec (v2 Q) : RSt m ρ K c 5 5 4
    ⊢ iprop((∀ x, RSt m ρ K c 6 6 5 -∗ Q x) -∗ run c (onArgs (k0_part10 (F := F)) c v2) Q) := by
  rw [k0_part10_eq_skeleton]; unfold k0_part10_skel
  simp only [onArgs, semSignalWord, semWaitWord, Prog.lift, Prog.bind_op, Prog.bind_ret, Prog.pure_eq_ret, wp_deviceId]
  iintro H Hk
  iapply (ph_send1 m ρ K c 5 4 (by decide) (by decide) (dev17_eq c) rfl rfl (half_at _ _ (off4_eq c 4) _) rfl) $$ H
  iintro H
  iapply (ph_loop m ρ K c 5 5 5 (by decide) (by decide) (by decide) (off1_eq c 5) (off2_eq c 5) rfl) $$ H
  iintro H
  iapply (ph_send0 m ρ K c 6 5 (by decide) (by decide) (dev18_eq c) rfl rfl (half_at _ _ (off3_eq c 5) _) rfl) $$ H
  iintro H
  iapply ret_intro
  iapply Hk
  iexact H

theorem part11_spec (v2 v306 Q) : RSt m ρ K c 6 6 5
    ⊢ iprop((∀ x, RSt m ρ K c 7 6 6 -∗ Q x) -∗ run c (onArgs (k0_part11 (F := F)) c v2 v306) Q) := by
  rw [k0_part11_eq_skeleton]; unfold k0_part11_skel
  simp only [onArgs, semSignalWord, semWaitWord, Prog.lift, Prog.bind_op, Prog.bind_ret, Prog.pure_eq_ret, wp_deviceId]
  iintro H Hk
  iapply (ph_send1 m ρ K c 6 5 (by decide) (by decide) (dev19_eq c) rfl rfl (half_at _ _ (off4_eq c 5) _) rfl) $$ H
  iintro H
  iapply (ph_loop m ρ K c 6 6 6 (by decide) (by decide) (by decide) (off1_eq c 6) (off2_eq c 6) rfl) $$ H
  iintro H
  iapply ret_intro
  iapply Hk
  iexact H

/-! ## Waiting and adding up -/

theorem part13_spec (v146 v186 v226 v266 Q) : WSt m ρ K c 1 0 Fin.rev 21 0
    ⊢ iprop((∀ x, WSt m ρ K c 1 0 Fin.rev 21 4 -∗ Q x) -∗ run c (onArgs (k0_part13 (F := F)) c v146 v186 v226 v266) Q) := by
  rw [k0_part13_eq_skeleton]; unfold k0_part13_skel
  simp only [onArgs, semSignalWord, semWaitWord, Prog.lift, Prog.bind_op, Prog.bind_ret, Prog.pure_eq_ret, wp_deviceId]
  iintro H Hk
  iapply (ph_wait m ρ K c 1 0 Fin.rev 21 0 (by decide) (by decide) rfl (N_slot 0 6)) $$ H
  iintro H
  iapply (ph_wait m ρ K c 1 0 Fin.rev 21 1 (by decide) (by decide) rfl (N_slot 0 5)) $$ H
  iintro H
  iapply (ph_wait m ρ K c 1 0 Fin.rev 21 2 (by decide) (by decide) rfl (N_slot 0 4)) $$ H
  iintro H
  iapply (ph_wait m ρ K c 1 0 Fin.rev 21 3 (by decide) (by decide) rfl (N_slot 0 3)) $$ H
  iintro H
  iapply ret_intro
  iapply Hk
  iexact H

theorem part20_spec (v146 v186 v226 v266 Q) : WSt m ρ K c 1 1 Fin.rev 28 0
    ⊢ iprop((∀ x, WSt m ρ K c 1 1 Fin.rev 28 4 -∗ Q x) -∗ run c (onArgs (k0_part20 (F := F)) c v146 v186 v226 v266) Q) := by
  rw [k0_part20_eq_skeleton]; unfold k0_part20_skel
  simp only [onArgs, semSignalWord, semWaitWord, Prog.lift, Prog.bind_op, Prog.bind_ret, Prog.pure_eq_ret, wp_deviceId]
  iintro H Hk
  iapply (ph_wait m ρ K c 1 1 Fin.rev 28 0 (by decide) (by decide) rfl (N_slot 1 6)) $$ H
  iintro H
  iapply (ph_wait m ρ K c 1 1 Fin.rev 28 1 (by decide) (by decide) rfl (N_slot 1 5)) $$ H
  iintro H
  iapply (ph_wait m ρ K c 1 1 Fin.rev 28 2 (by decide) (by decide) rfl (N_slot 1 4)) $$ H
  iintro H
  iapply (ph_wait m ρ K c 1 1 Fin.rev 28 3 (by decide) (by decide) rfl (N_slot 1 3)) $$ H
  iintro H
  iapply ret_intro
  iapply Hk
  iexact H

/-! ## The second exchange -/

theorem part16_spec (v2 v476 v477 v478 v479 w Q) : ASt m ρ K c 0 0
    ⊢ iprop((∀ x, ASt m ρ K c 0 2 -∗ Q x) -∗ run c (onArgs (k0_part16 (F := F)) c v2 v476 v477 v478 v479 w) Q) := by
  rw [k0_part16_eq_skeleton]; unfold k0_part16_skel
  simp only [onArgs, semSignalWord, semWaitWord, Prog.lift, Prog.bind_op, Prog.bind_ret, Prog.pure_eq_ret, wp_deviceId]
  iintro H Hk
  iapply (ph_back m ρ K c 0 0 (by decide) (dev22_eq c) rfl rfl (half_at _ _ (k0_off8_eq c) _) (half_at _ _ (k0_off8_eq c) _)) $$ H
  iintro H
  iapply (ph_back m ρ K c 0 1 (by decide) (dev23_eq c) rfl rfl (half_at _ _ (k0_off8_eq c) _) (half_at _ _ (k0_off8_eq c) _)) $$ H
  iintro H
  iapply ret_intro
  iapply Hk
  iexact H

theorem part17_spec (v2 v514 w Q) : ASt m ρ K c 0 2
    ⊢ iprop((∀ x, ASt m ρ K c 0 3 -∗ Q x) -∗ run c (onArgs (k0_part17 (F := F)) c v2 v514 w) Q) := by
  rw [k0_part17_eq_skeleton]; unfold k0_part17_skel
  simp only [onArgs, semSignalWord, semWaitWord, Prog.lift, Prog.bind_op, Prog.bind_ret, Prog.pure_eq_ret, wp_deviceId]
  iintro H Hk
  iapply (ph_back m ρ K c 0 2 (by decide) (dev24_eq c) rfl rfl (half_at _ _ (k0_off8_eq c) _) (half_at _ _ (k0_off8_eq c) _)) $$ H
  iintro H
  iapply ret_intro
  iapply Hk
  iexact H

theorem part18_spec (v2 Q) : ASt m ρ K c 0 3
    ⊢ iprop((∀ x, ASt m ρ K c 0 5 -∗ Q x) -∗ run c (onArgs (k0_part18 (F := F)) c v2) Q) := by
  rw [k0_part18_eq_skeleton]; unfold k0_part18_skel
  simp only [onArgs, semSignalWord, semWaitWord, Prog.lift, Prog.bind_op, Prog.bind_ret, Prog.pure_eq_ret, wp_deviceId]
  iintro H Hk
  iapply (ph_back m ρ K c 0 3 (by decide) (dev25_eq c) rfl rfl (half_at _ _ (k0_off8_eq c) _) (half_at _ _ (k0_off8_eq c) _)) $$ H
  iintro H
  iapply (ph_back m ρ K c 0 4 (by decide) (dev26_eq c) rfl rfl (half_at _ _ (k0_off8_eq c) _) (half_at _ _ (k0_off8_eq c) _)) $$ H
  iintro H
  iapply ret_intro
  iapply Hk
  iexact H

theorem part19_spec (v2 v106 v584 Q) : ASt m ρ K c 0 5
    ⊢ iprop((∀ x, ASt m ρ K c 0 7 -∗ Q x) -∗ run c (onArgs (k0_part19 (F := F)) c v2 v106 v584) Q) := by
  rw [k0_part19_eq_skeleton]; unfold k0_part19_skel
  simp only [onArgs, semSignalWord, semWaitWord, Prog.lift, Prog.bind_op, Prog.bind_ret, Prog.pure_eq_ret, wp_deviceId]
  iintro H Hk
  iapply (ph_back m ρ K c 0 5 (by decide) (dev27_eq c) rfl rfl (half_at _ _ (k0_off8_eq c) _) (half_at _ _ (k0_off8_eq c) _)) $$ H
  iintro H
  iapply (ph_back m ρ K c 0 6 (by decide) (dev28_eq c) rfl rfl (half_at _ _ (k0_off8_eq c) _) (half_at _ _ (k0_off8_eq c) _)) $$ H
  iintro H
  iapply ret_intro
  iapply Hk
  iexact H

theorem part23_spec (v2 v704 v705 w Q) : ASt m ρ K c 1 0
    ⊢ iprop((∀ x, ASt m ρ K c 1 2 -∗ Q x) -∗ run c (onArgs (k0_part23 (F := F)) c v2 v704 v705 w) Q) := by
  rw [k0_part23_eq_skeleton]; unfold k0_part23_skel
  simp only [onArgs, semSignalWord, semWaitWord, Prog.lift, Prog.bind_op, Prog.bind_ret, Prog.pure_eq_ret, wp_deviceId]
  iintro H Hk
  iapply (ph_back m ρ K c 1 0 (by decide) (dev29_eq c) rfl rfl (half_at _ _ (k0_off10_eq c) _) (half_at _ _ (k0_off10_eq c) _)) $$ H
  iintro H
  iapply (ph_back m ρ K c 1 1 (by decide) (dev30_eq c) rfl rfl (half_at _ _ (k0_off10_eq c) _) (half_at _ _ (k0_off10_eq c) _)) $$ H
  iintro H
  iapply ret_intro
  iapply Hk
  iexact H

theorem part24_spec (v2 w Q) : ASt m ρ K c 1 2
    ⊢ iprop((∀ x, ASt m ρ K c 1 3 -∗ Q x) -∗ run c (onArgs (k0_part24 (F := F)) c v2 w) Q) := by
  rw [k0_part24_eq_skeleton]; unfold k0_part24_skel
  simp only [onArgs, semSignalWord, semWaitWord, Prog.lift, Prog.bind_op, Prog.bind_ret, Prog.pure_eq_ret, wp_deviceId]
  iintro H Hk
  iapply (ph_back m ρ K c 1 2 (by decide) (dev31_eq c) rfl rfl (half_at _ _ (k0_off10_eq c) _) (half_at _ _ (k0_off10_eq c) _)) $$ H
  iintro H
  iapply ret_intro
  iapply Hk
  iexact H

theorem part25_spec (v2 Q) : ASt m ρ K c 1 3
    ⊢ iprop((∀ x, ASt m ρ K c 1 5 -∗ Q x) -∗ run c (onArgs (k0_part25 (F := F)) c v2) Q) := by
  rw [k0_part25_eq_skeleton]; unfold k0_part25_skel
  simp only [onArgs, semSignalWord, semWaitWord, Prog.lift, Prog.bind_op, Prog.bind_ret, Prog.pure_eq_ret, wp_deviceId]
  iintro H Hk
  iapply (ph_back m ρ K c 1 3 (by decide) (dev32_eq c) rfl rfl (half_at _ _ (k0_off10_eq c) _) (half_at _ _ (k0_off10_eq c) _)) $$ H
  iintro H
  iapply (ph_back m ρ K c 1 4 (by decide) (dev33_eq c) rfl rfl (half_at _ _ (k0_off10_eq c) _) (half_at _ _ (k0_off10_eq c) _)) $$ H
  iintro H
  iapply ret_intro
  iapply Hk
  iexact H

theorem part26_spec (v2 v484 v804 v805 v806 v807 v808 Q) : ASt m ρ K c 1 5
    ⊢ iprop((∀ x, ASt m ρ K c 1 7 -∗ Q x) -∗ run c (onArgs (k0_part26 (F := F)) c v2 v484 v804 v805 v806 v807 v808) Q) := by
  rw [k0_part26_eq_skeleton]; unfold k0_part26_skel
  simp only [onArgs, semSignalWord, semWaitWord, Prog.lift, Prog.bind_op, Prog.bind_ret, Prog.pure_eq_ret, wp_deviceId]
  iintro H Hk
  iapply (ph_back m ρ K c 1 5 (by decide) (dev34_eq c) rfl rfl (half_at _ _ (k0_off10_eq c) _) (half_at _ _ (k0_off10_eq c) _)) $$ H
  iintro H
  iapply (ph_back m ρ K c 1 6 (by decide) (dev35_eq c) rfl rfl (half_at _ _ (k0_off10_eq c) _) (half_at _ _ (k0_off10_eq c) _)) $$ H
  iintro H
  iapply ret_intro
  iapply Hk
  iexact H

/-! ## The last waits -/

theorem part27_spec (v504 v524 v544 v564 Q) : WSt m ρ K c 3 0 Fin.rev 35 0
    ⊢ iprop((∀ x, WSt m ρ K c 3 0 Fin.rev 35 5 -∗ Q x) -∗ run c (onArgs (k0_part27 (F := F)) c v504 v524 v544 v564) Q) := by
  rw [k0_part27_eq_skeleton]; unfold k0_part27_skel
  simp only [onArgs, semSignalWord, semWaitWord, Prog.lift, Prog.bind_op, Prog.bind_ret, Prog.pure_eq_ret, wp_deviceId]
  iintro H Hk
  iapply (ph_wait m ρ K c 3 0 Fin.rev 35 0 (by decide) (by decide) rfl N_at) $$ H
  iintro H
  iapply (ph_wait m ρ K c 3 0 Fin.rev 35 1 (by decide) (by decide) rfl N_at) $$ H
  iintro H
  iapply (ph_wait m ρ K c 3 0 Fin.rev 35 2 (by decide) (by decide) rfl N_at) $$ H
  iintro H
  iapply (ph_wait m ρ K c 3 0 Fin.rev 35 3 (by decide) (by decide) rfl N_at) $$ H
  iintro H
  iapply (ph_wait m ρ K c 3 0 Fin.rev 35 4 (by decide) (by decide) rfl N_at) $$ H
  iintro H
  iapply ret_intro
  iapply Hk
  iexact H

/-! ## Adding up -/

theorem part12_spec (v2 v106 v346 Q) : iprop(RSt m ρ K c 7 6 6 ∗ anyAt c (rowM c))
    ⊢ iprop((∀ x, iprop(RSt m ρ K c 7 7 7 ∗ holds c (halfM c 0) fullShare (part m ρ c c 0) ∗ holds c (halfM c 1) fullShare (part m ρ c c 1)) -∗ Q x) -∗ run c (onArgs (k0_part12 (F := F)) c v2 v106 v346) Q) := by
  rw [k0_part12_eq_skeleton]; unfold k0_part12_skel
  simp only [onArgs, semSignalWord, semWaitWord, Prog.lift, Prog.bind_op, Prog.bind_ret, Prog.pure_eq_ret, wp_deviceId]
  iintro ⟨H, HR⟩ Hk
  iapply (ph_send0 m ρ K c 7 6 (by decide) (by decide) (dev20_eq c) rfl rfl (half_at _ _ (off3_eq c 6) _) rfl) $$ H
  iintro H
  iapply (ph_send1 m ρ K c 7 6 (by decide) (by decide) (dev21_eq c) rfl rfl (half_at _ _ (off4_eq c 6) _) rfl) $$ H
  iintro H
  iapply (ph_own m ρ K c 7 7 7 (k0_off5_eq c) (k0_off6_eq c) rfl) $$ H HR
  iintro H
  iapply ret_intro
  iapply Hk
  iexact H

theorem part14_spec (v306 v346 v376 Q) : iprop(WSt m ρ K c 1 0 Fin.rev 21 4 ∗ holds c (halfM c 0) fullShare (part m ρ c c 0))
    ⊢ iprop((AccSt m ρ K c 21 0 (part m ρ c c 0) -∗ Q (k0_pay9 (part m ρ c c 0) (up (part m ρ (peer c 0) c 0)) (up (part m ρ (peer c 1) c 0)) (up (part m ρ (peer c 2) c 0)))) -∗ run c (onArgs (k0_part14 (F := F)) c v306 v346 v376) Q) := by
  rw [k0_part14_eq_skeleton]; unfold k0_part14_skel
  simp only [onArgs, semSignalWord, semWaitWord, Prog.lift, Prog.bind_op, Prog.bind_ret, Prog.pure_eq_ret, wp_deviceId]
  iintro ⟨H, HO⟩ Hk
  iapply (ph_wait m ρ K c 1 0 Fin.rev 21 4 (by decide) (by decide) rfl (N_slot 0 2)) $$ H
  iintro H
  iapply (ph_wait m ρ K c 1 0 Fin.rev 21 5 (by decide) (by decide) rfl (N_slot 0 1)) $$ H
  iintro H
  iapply (ph_wait m ρ K c 1 0 Fin.rev 21 6 (by decide) (by decide) rfl (N_slot 0 0)) $$ H
  iintro H
  ihave H := (acc_intro m ρ K c 21 0 (part m ρ c c 0)) $$ [H HO]
  · isplitl [H] <;> iassumption
  iapply (ph_accLoad m ρ K c 21 0 _ (k0_off7_eq c)) $$ H
  iintro H
  iapply (ph_slot m ρ K c 21 0 _ 0 rfl rfl) $$ H
  iintro H
  iapply (ph_slot m ρ K c 21 0 _ 1 rfl rfl) $$ H
  iintro H
  iapply (ph_slot m ρ K c 21 0 _ 2 rfl rfl) $$ H
  iintro H
  iapply ret_intro
  iapply Hk
  iexact H

theorem part15_spec (v2 v376 Q) : AccSt m ρ K c 21 0 (part m ρ c c 0)
    ⊢ iprop((∀ x, AccSt m ρ K c 21 0 (fin m ρ c 0) -∗ Q x) -∗ run c (onArgs (k0_part15 (F := F)) c v2 v376 (k0_pay9 (part m ρ c c 0) (up (part m ρ (peer c 0) c 0)) (up (part m ρ (peer c 1) c 0)) (up (part m ρ (peer c 2) c 0)))) Q) := by
  rw [k0_part15_eq_skeleton]; unfold k0_part15_skel
  simp only [onArgs, semSignalWord, semWaitWord, Prog.lift, Prog.bind_op, Prog.bind_ret, Prog.pure_eq_ret, wp_deviceId]
  iintro H Hk
  iapply (ph_slot m ρ K c 21 0 _ 3 rfl rfl) $$ H
  iintro H
  iapply (ph_slot m ρ K c 21 0 _ 4 rfl rfl) $$ H
  iintro H
  iapply (ph_slot m ρ K c 21 0 _ 5 rfl rfl) $$ H
  iintro H
  iapply (ph_slot m ρ K c 21 0 _ 6 rfl rfl) $$ H
  iintro H
  iapply (ph_accLoad m ρ K c 21 0 _ (k0_off7_eq c)) $$ H
  iintro H
  iapply (ph_accStore m ρ K c 21 0 _ _ (k0_off7_eq c)) $$ H
  iintro H
  iapply ret_intro
  iapply Hk
  iexact H

theorem part21_spec (v306 v346 v376 v641 w Q) : iprop(WSt m ρ K c 1 1 Fin.rev 28 4 ∗ holds c (halfM c 1) fullShare (part m ρ c c 1))
    ⊢ iprop((AccSt m ρ K c 28 1 (part m ρ c c 1) -∗ Q (k0_pay11 (part m ρ c c 1) (up (part m ρ (peer c 0) c 1)) (up (part m ρ (peer c 1) c 1)))) -∗ run c (onArgs (k0_part21 (F := F)) c v306 v346 v376 v641 w) Q) := by
  rw [k0_part21_eq_skeleton]; unfold k0_part21_skel
  simp only [onArgs, semSignalWord, semWaitWord, Prog.lift, Prog.bind_op, Prog.bind_ret, Prog.pure_eq_ret, wp_deviceId]
  iintro ⟨H, HO⟩ Hk
  iapply (ph_wait m ρ K c 1 1 Fin.rev 28 4 (by decide) (by decide) rfl (N_slot 1 2)) $$ H
  iintro H
  iapply (ph_wait m ρ K c 1 1 Fin.rev 28 5 (by decide) (by decide) rfl (N_slot 1 1)) $$ H
  iintro H
  iapply (ph_wait m ρ K c 1 1 Fin.rev 28 6 (by decide) (by decide) rfl (N_slot 1 0)) $$ H
  iintro H
  ihave H := (acc_intro m ρ K c 28 1 (part m ρ c c 1)) $$ [H HO]
  · isplitl [H] <;> iassumption
  iapply (ph_accLoad m ρ K c 28 1 _ (k0_off9_eq c)) $$ H
  iintro H
  iapply (ph_slot m ρ K c 28 1 _ 0 rfl rfl) $$ H
  iintro H
  iapply (ph_slot m ρ K c 28 1 _ 1 rfl rfl) $$ H
  iintro H
  iapply ret_intro
  iapply Hk
  iexact H

theorem part22_spec (v2 v376 Q) : AccSt m ρ K c 28 1 (part m ρ c c 1)
    ⊢ iprop((∀ x, AccSt m ρ K c 28 1 (fin m ρ c 1) -∗ Q x) -∗ run c (onArgs (k0_part22 (F := F)) c v2 v376 (k0_pay11 (part m ρ c c 1) (up (part m ρ (peer c 0) c 1)) (up (part m ρ (peer c 1) c 1)))) Q) := by
  rw [k0_part22_eq_skeleton]; unfold k0_part22_skel
  simp only [onArgs, semSignalWord, semWaitWord, Prog.lift, Prog.bind_op, Prog.bind_ret, Prog.pure_eq_ret, wp_deviceId]
  iintro H Hk
  iapply (ph_slot m ρ K c 28 1 _ 2 rfl rfl) $$ H
  iintro H
  iapply (ph_slot m ρ K c 28 1 _ 3 rfl rfl) $$ H
  iintro H
  iapply (ph_slot m ρ K c 28 1 _ 4 rfl rfl) $$ H
  iintro H
  iapply (ph_slot m ρ K c 28 1 _ 5 rfl rfl) $$ H
  iintro H
  iapply (ph_slot m ρ K c 28 1 _ 6 rfl rfl) $$ H
  iintro H
  iapply (ph_accLoad m ρ K c 28 1 _ (k0_off9_eq c)) $$ H
  iintro H
  iapply (ph_accStore m ρ K c 28 1 _ _ (k0_off9_eq c)) $$ H
  iintro H
  iapply ret_intro
  iapply Hk
  iexact H

/-! ## The last waits, of both halves -/

theorem part28_spec (v584 v604 v712 v732 v752 Q) : iprop(WSt m ρ K c 3 0 Fin.rev 35 5 ∗ Wts (F := F) c 3 1 Fin.rev)
    ⊢ iprop((∀ x, iprop(WSt m ρ K c 3 1 Fin.rev 35 2 ∗ Dones m ρ c 3 0 Fin.rev) -∗ Q x) -∗ run c (onArgs (k0_part28 (F := F)) c v584 v604 v712 v732 v752) Q) := by
  rw [k0_part28_eq_skeleton]; unfold k0_part28_skel
  simp only [onArgs, semSignalWord, semWaitWord, Prog.lift, Prog.bind_op, Prog.bind_ret, Prog.pure_eq_ret, wp_deviceId]
  iintro ⟨H, HW⟩ Hk
  iapply (ph_wait m ρ K c 3 0 Fin.rev 35 5 (by decide) (by decide) rfl N_at) $$ H
  iintro H
  iapply (ph_wait m ρ K c 3 0 Fin.rev 35 6 (by decide) (by decide) rfl N_at) $$ H
  iintro H
  ihave H := (wst_next m ρ K c 3 Fin.rev 35) $$ [H HW]
  · isplitl [H] <;> iassumption
  icases H with ⟨H, HD⟩
  iapply (ph_wait m ρ K c 3 1 Fin.rev 35 0 (by decide) (by decide) rfl N_at) $$ H
  iintro H
  iapply (ph_wait m ρ K c 3 1 Fin.rev 35 1 (by decide) (by decide) rfl N_at) $$ H
  iintro H
  iapply ret_intro
  iapply Hk
  isplitl [H] <;> iassumption

theorem part29_spec (v772 v792 v812 v832 Q) : WSt m ρ K c 3 1 Fin.rev 35 2
    ⊢ iprop((∀ x, WSt m ρ K c 3 1 Fin.rev 35 7 -∗ Q x) -∗ run c (onArgs (k0_part29 (F := F)) c v772 v792 v812 v832) Q) := by
  rw [k0_part29_eq_skeleton]; unfold k0_part29_skel
  simp only [onArgs, semSignalWord, semWaitWord, Prog.lift, Prog.bind_op, Prog.bind_ret, Prog.pure_eq_ret, wp_deviceId]
  iintro H Hk
  iapply (ph_wait m ρ K c 3 1 Fin.rev 35 2 (by decide) (by decide) rfl N_at) $$ H
  iintro H
  iapply (ph_wait m ρ K c 3 1 Fin.rev 35 3 (by decide) (by decide) rfl N_at) $$ H
  iintro H
  iapply (ph_wait m ρ K c 3 1 Fin.rev 35 4 (by decide) (by decide) rfl N_at) $$ H
  iintro H
  iapply (ph_wait m ρ K c 3 1 Fin.rev 35 5 (by decide) (by decide) rfl N_at) $$ H
  iintro H
  iapply (ph_wait m ρ K c 3 1 Fin.rev 35 6 (by decide) (by decide) rfl N_at) $$ H
  iintro H
  iapply ret_intro
  iapply Hk
  iexact H

theorem part30_spec (Q) : WSt m ρ K c 0 0 id 35 0
    ⊢ iprop((∀ x, WSt m ρ K c 0 0 id 35 4 -∗ Q x) -∗ run c (onArgs (k0_part30 (F := F)) c) Q) := by
  rw [k0_part30_eq_skeleton]; unfold k0_part30_skel
  simp only [onArgs, semSignalWord, semWaitWord, Prog.lift, Prog.bind_op, Prog.bind_ret, Prog.pure_eq_ret, wp_deviceId]
  iintro H Hk
  iapply (ph_wait m ρ K c 0 0 id 35 0 (by decide) (by decide) rfl N_at) $$ H
  iintro H
  iapply (ph_wait m ρ K c 0 0 id 35 1 (by decide) (by decide) rfl N_at) $$ H
  iintro H
  iapply (ph_wait m ρ K c 0 0 id 35 2 (by decide) (by decide) rfl N_at) $$ H
  iintro H
  iapply (ph_wait m ρ K c 0 0 id 35 3 (by decide) (by decide) rfl N_at) $$ H
  iintro H
  iapply ret_intro
  iapply Hk
  iexact H

theorem part31_spec (Q) : iprop(WSt m ρ K c 0 0 id 35 4 ∗ Wts (F := F) c 0 1 id)
    ⊢ iprop((∀ x, iprop(WSt m ρ K c 0 1 id 35 2 ∗ Dones m ρ c 0 0 id) -∗ Q x) -∗ run c (onArgs (k0_part31 (F := F)) c) Q) := by
  rw [k0_part31_eq_skeleton]; unfold k0_part31_skel
  simp only [onArgs, semSignalWord, semWaitWord, Prog.lift, Prog.bind_op, Prog.bind_ret, Prog.pure_eq_ret, wp_deviceId]
  iintro ⟨H, HW⟩ Hk
  iapply (ph_wait m ρ K c 0 0 id 35 4 (by decide) (by decide) rfl N_at) $$ H
  iintro H
  iapply (ph_wait m ρ K c 0 0 id 35 5 (by decide) (by decide) rfl N_at) $$ H
  iintro H
  iapply (ph_wait m ρ K c 0 0 id 35 6 (by decide) (by decide) rfl N_at) $$ H
  iintro H
  ihave H := (wst_next m ρ K c 0 id 35) $$ [H HW]
  · isplitl [H] <;> iassumption
  icases H with ⟨H, HD⟩
  iapply (ph_wait m ρ K c 0 1 id 35 0 (by decide) (by decide) rfl N_at) $$ H
  iintro H
  iapply (ph_wait m ρ K c 0 1 id 35 1 (by decide) (by decide) rfl N_at) $$ H
  iintro H
  iapply ret_intro
  iapply Hk
  isplitl [H] <;> iassumption

theorem part32_spec (Q) : WSt m ρ K c 0 1 id 35 2
    ⊢ iprop((∀ x, WSt m ρ K c 0 1 id 35 7 -∗ Q x) -∗ run c (onArgs (k0_part32 (F := F)) c) Q) := by
  rw [k0_part32_eq_skeleton]; unfold k0_part32_skel
  simp only [onArgs, semSignalWord, semWaitWord, Prog.lift, Prog.bind_op, Prog.bind_ret, Prog.pure_eq_ret, wp_deviceId]
  iintro H Hk
  iapply (ph_wait m ρ K c 0 1 id 35 2 (by decide) (by decide) rfl N_at) $$ H
  iintro H
  iapply (ph_wait m ρ K c 0 1 id 35 3 (by decide) (by decide) rfl N_at) $$ H
  iintro H
  iapply (ph_wait m ρ K c 0 1 id 35 4 (by decide) (by decide) rfl N_at) $$ H
  iintro H
  iapply (ph_wait m ρ K c 0 1 id 35 5 (by decide) (by decide) rfl N_at) $$ H
  iintro H
  iapply (ph_wait m ρ K c 0 1 id 35 6 (by decide) (by decide) rfl N_at) $$ H
  iintro H
  iapply ret_intro
  iapply Hk
  iexact H

theorem part33_spec (Q) : WSt m ρ K c 2 0 id 35 0
    ⊢ iprop((∀ x, WSt m ρ K c 2 0 id 35 6 -∗ Q x) -∗ run c (onArgs (k0_part33 (F := F)) c) Q) := by
  rw [k0_part33_eq_skeleton]; unfold k0_part33_skel
  simp only [onArgs, semSignalWord, semWaitWord, Prog.lift, Prog.bind_op, Prog.bind_ret, Prog.pure_eq_ret, wp_deviceId]
  iintro H Hk
  iapply (ph_wait m ρ K c 2 0 id 35 0 (by decide) (by decide) rfl N_at) $$ H
  iintro H
  iapply (ph_wait m ρ K c 2 0 id 35 1 (by decide) (by decide) rfl N_at) $$ H
  iintro H
  iapply (ph_wait m ρ K c 2 0 id 35 2 (by decide) (by decide) rfl N_at) $$ H
  iintro H
  iapply (ph_wait m ρ K c 2 0 id 35 3 (by decide) (by decide) rfl N_at) $$ H
  iintro H
  iapply (ph_wait m ρ K c 2 0 id 35 4 (by decide) (by decide) rfl N_at) $$ H
  iintro H
  iapply (ph_wait m ρ K c 2 0 id 35 5 (by decide) (by decide) rfl N_at) $$ H
  iintro H
  iapply ret_intro
  iapply Hk
  iexact H

theorem part34_spec (Q) : iprop(WSt m ρ K c 2 0 id 35 6 ∗ Wts (F := F) c 2 1 id)
    ⊢ iprop((∀ x, iprop(WSt m ρ K c 2 1 id 35 5 ∗ Dones m ρ c 2 0 id) -∗ Q x) -∗ run c (onArgs (k0_part34 (F := F)) c) Q) := by
  rw [k0_part34_eq_skeleton]; unfold k0_part34_skel
  simp only [onArgs, semSignalWord, semWaitWord, Prog.lift, Prog.bind_op, Prog.bind_ret, Prog.pure_eq_ret, wp_deviceId]
  iintro ⟨H, HW⟩ Hk
  iapply (ph_wait m ρ K c 2 0 id 35 6 (by decide) (by decide) rfl N_at) $$ H
  iintro H
  ihave H := (wst_next m ρ K c 2 id 35) $$ [H HW]
  · isplitl [H] <;> iassumption
  icases H with ⟨H, HD⟩
  iapply (ph_wait m ρ K c 2 1 id 35 0 (by decide) (by decide) rfl N_at) $$ H
  iintro H
  iapply (ph_wait m ρ K c 2 1 id 35 1 (by decide) (by decide) rfl N_at) $$ H
  iintro H
  iapply (ph_wait m ρ K c 2 1 id 35 2 (by decide) (by decide) rfl N_at) $$ H
  iintro H
  iapply (ph_wait m ρ K c 2 1 id 35 3 (by decide) (by decide) rfl N_at) $$ H
  iintro H
  iapply (ph_wait m ρ K c 2 1 id 35 4 (by decide) (by decide) rfl N_at) $$ H
  iintro H
  iapply ret_intro
  iapply Hk
  isplitl [H] <;> iassumption

end Cert.Allreduce
-- ==== Proof.Joins.lean ====
/-
The result block and the landing buffers taken apart and put together.
-/
module

public import proofs.«01_k».proof.Proof.Steps

@[expose] public section

noncomputable section

namespace Cert.Allreduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

local notation "𝕄" => MT nD τ sig Unit (Elt F) ℕ UU ℕ

/-! ## Pieces put together -/

/-- Values on the pieces of a disjoint family are the parts of one value on the whole. -/
theorem exists_glue {sh : Shape} {T α : Type} [Nonempty α] (r : T → Rect sh) (hd : ∀ t t', t ≠ t' → Disjoint (r t).set (r t').set)
    (v : ∀ t, (r t).shape.Idx → α) : ∃ X : sh.Idx → α, ∀ t j, X ((r t).emb j) = v t j := by
  classical
  let e (p : Σ t, (r t).shape.Idx) : sh.Idx := (r p.1).emb p.2
  have he : Function.Injective e := by
    rintro ⟨t, j⟩ ⟨t', j'⟩ h
    have hm (t) (j : (r t).shape.Idx) : (r t).emb j ∈ (r t).set := by
      rw [← Rect.map_emb_univ]; exact Finset.mem_map_of_mem _ (Finset.mem_univ j)
    have ht : t = t' := by
      by_contra hne
      have h' : (r t).emb j = (r t').emb j' := h
      exact Finset.disjoint_left.mp (hd t t' hne) (hm t j) (h' ▸ hm t' j')
    subst ht
    have : j = j' := (r t).emb.injective h
    rw [this]
  refine ⟨fun i => if h : ∃ p, e p = i then v h.choose.1 h.choose.2 else Classical.arbitrary α, fun t j => ?_⟩
  have h : ∃ p, e p = (r t).emb j := ⟨⟨t, j⟩, rfl⟩
  have hc : h.choose = ⟨t, j⟩ := he h.choose_spec
  show dite _ _ _ = _
  rw [dif_pos h, hc]

/-- A memref whose pieces are owned, each at some contents, is owned at some contents. -/
theorem anyAt_join (c : Dev nD) {s : Shape} (M : Memref sig .tc .vmem s .f32) {T : Type} [Fintype T] [DecidableEq T] (r : T → Rect s)
    (hr : ∀ t a, (r t).stride a = 1) (hd : ∀ t t', t ≠ t' → Disjoint (r t).set (r t').set)
    (hcov : (Finset.univ : Finset T).biUnion (fun t => (r t).set) = Finset.univ) (v : ∀ t, (r t).shape.Idx → Elt F .f32) :
    (bigSep Finset.univ fun t => holds c (M.slice (r t) (hr t)) fullShare (v t)) ⊢ anyAt c M := by
  haveI : Nonempty (Elt F .f32) := Elt.nonempty F _
  obtain ⟨X, hX⟩ := exists_glue r hd v
  rw [show v = fun t j => X ((r t).emb j) from funext fun t => funext fun j => (hX t j).symm]
  exact (owns_of_rects (c : Thread nD τ) M fullShare r hr hd hcov X).trans (anyAt_intro c M X)

/-- A memref owned at some contents is its pieces, each owned at some contents. -/
theorem anyAt_split (c : Dev nD) {s : Shape} (M : Memref sig .tc .vmem s .f32) {T : Type} [Fintype T] [DecidableEq T] (r : T → Rect s)
    (hr : ∀ t a, (r t).stride a = 1) (hd : ∀ t t', t ≠ t' → Disjoint (r t).set (r t').set)
    (hcov : (Finset.univ : Finset T).biUnion (fun t => (r t).set) = Finset.univ) :
    anyAt (F := F) c M ⊢ bigSep Finset.univ fun t => anyAt (F := F) c (M.slice (r t) (hr t)) := by
  unfold anyAt
  iintro ⟨%X, H⟩
  ihave H := (owns_rects (c : Thread nD τ) M fullShare r hr hd hcov X) $$ H
  iapply (show _ ⊢ _ from bigSep_mono fun t _ => anyAt_intro c (M.slice (r t) (hr t)) fun j => X ((r t).emb j)) $$ H

/-- The result block before anything is computed: the own rows and those of every peer. -/
theorem out_split (c : Dev nD) : anyAt (F := F) c oM ⊢ iprop(anyAt (F := F) c (rowM c) ∗ bigSep Finset.univ fun j => anyAt (F := F) c (rowM (peer c j))) :=
  (anyAt_split c oM rowR (fun _ _ => rfl) rowR_disj rowR_cover).trans (Entails.of_eq (bigSep_devs c _))

/-- A slice of one slot owned at some contents is the slot owned at some contents. -/
theorem slot_any (c : Dev nD) (h : Fin 2) (s : Fin 7) :
    anyAt (F := F) c ((lM h).slice (slotR s) (fun _ => rfl)) ⊢ anyAt (F := F) c (slotM h s) := by
  unfold anyAt
  iintro ⟨%v, H⟩
  iexists (fun j => v (Shape.reshapeEquiv squeezes_S1x64x256_S64x256.numel_eq j))
  rw [holds_slot, show up (F := F) (fun j => v (Shape.reshapeEquiv squeezes_S1x64x256_S64x256.numel_eq j)) = v from
    funext fun i => congrArg v (Equiv.apply_symm_apply _ _)]
  iexact H

/-- A landing buffer is its slots, -/
theorem slots_split (c : Dev nD) (h : Fin 2) : anyAt (F := F) c (lM h) ⊢ bigSep Finset.univ fun s => anyAt (F := F) c (slotM h s) :=
  (anyAt_split c (lM h) slotR (fun _ _ => rfl) slotR_disj slotR_cover).trans (bigSep_mono fun s _ => slot_any c h s)

/-- and its slots are the landing buffer. -/
theorem slots_join (c : Dev nD) (h : Fin 2) (v : Fin 7 → S64x256.Idx → Elt F .f32) :
    (bigSep Finset.univ fun s => holds c (slotM h s) fullShare (v s)) ⊢ anyAt (F := F) c (lM h) := by
  simp only [holds_slot]
  exact anyAt_join c (lM h) slotR (fun _ _ => rfl) slotR_disj slotR_cover fun s => up (v s)

/-! ## The finished result block -/

theorem halfR_disj (t t' : Dev nD × Fin 2) (hn : t ≠ t') : Disjoint (halfR t.1 t.2).set (halfR t'.1 t'.2).set := by
  rcases Decidable.em (t.1 = t'.1) with h | h
  · exact Rect.unit_disjoint 1 (by
      have : t.2.val ≠ t'.2.val := fun e => hn (Prod.ext h (Fin.ext e))
      show 256 * t.2.val + 256 ≤ 256 * t'.2.val ∨ 256 * t'.2.val + 256 ≤ 256 * t.2.val
      omega)
  · exact Rect.unit_disjoint 0 (by
      have : t.1.val ≠ t'.1.val := fun e => h (Fin.ext e)
      show 64 * t.1.val + 64 ≤ 64 * t'.1.val ∨ 64 * t'.1.val + 64 ≤ 64 * t.1.val
      omega)
theorem halfR_cover : (Finset.univ : Finset (Dev nD × Fin 2)).biUnion (fun t => (halfR t.1 t.2).set) = Finset.univ := by
  refine Finset.eq_univ_iff_forall.mpr fun i => Finset.mem_biUnion.mpr ?_
  have h0 : (i 0 : ℕ) < 512 := (i 0).isLt
  have h1 : (i 1 : ℕ) < 512 := (i 1).isLt
  refine ⟨(⟨(i 0 : ℕ) / 64, by show (i 0 : ℕ) / 64 < 8; omega⟩, ⟨(i 1 : ℕ) / 256, by omega⟩), Finset.mem_univ _,
    Rect.mem_set_unit.mpr (Fin.forall_fin_two.mpr ⟨?_, ?_⟩)⟩
  · show 64 * ((i 0 : ℕ) / 64) ≤ (i 0 : ℕ) ∧ (i 0 : ℕ) < 64 * ((i 0 : ℕ) / 64) + 64; omega
  · show 256 * ((i 1 : ℕ) / 256) ≤ (i 1 : ℕ) ∧ (i 1 : ℕ) < 256 * ((i 1 : ℕ) / 256) + 256; omega

/-- The device, the half and the place within the piece of an element of the result block. -/
def devOf (i : S512x512.Idx) : Dev nD := ⟨(i 0 : ℕ) / 64, by have h0 : (i 0 : ℕ) < 512 := (i 0).isLt; show (i 0 : ℕ) / 64 < 8; omega⟩
def halfOf (i : S512x512.Idx) : Fin 2 := ⟨(i 1 : ℕ) / 256, by have h1 : (i 1 : ℕ) < 512 := (i 1).isLt; omega⟩
def inOf (i : S512x512.Idx) : S64x256.Idx :=
  show (a : Fin 2) → Fin (S64x256.size a) from fun
    | 0 => ⟨(i 0 : ℕ) % 64, Nat.mod_lt _ (by decide)⟩
    | 1 => ⟨(i 1 : ℕ) % 256, Nat.mod_lt _ (by decide)⟩

theorem devOf_emb (p : Dev nD) (h : Fin 2) (j : S64x256.Idx) : devOf ((halfR p h).emb j) = p := by
  have h0 : (j 0 : ℕ) < 64 := (j 0).isLt
  refine Fin.ext ?_
  show (64 * p.val + 1 * (j 0 : ℕ)) / 64 = p.val; omega
theorem halfOf_emb (p : Dev nD) (h : Fin 2) (j : S64x256.Idx) : halfOf ((halfR p h).emb j) = h := by
  have h1 : (j 1 : ℕ) < 256 := (j 1).isLt
  refine Fin.ext ?_
  show (256 * h.val + 1 * (j 1 : ℕ)) / 256 = h.val; omega
theorem inOf_emb (p : Dev nD) (h : Fin 2) (j : S64x256.Idx) : inOf ((halfR p h).emb j) = j := by
  have h0 : (j 0 : ℕ) < 64 := (j 0).isLt
  have h1 : (j 1 : ℕ) < 256 := (j 1).isLt
  funext a; refine Fin.ext ?_
  revert a
  refine Fin.forall_fin_two.mpr ⟨?_, ?_⟩
  · show (64 * p.val + 1 * (j 0 : ℕ)) % 64 = (j 0 : ℕ); omega
  · show (256 * h.val + 1 * (j 1 : ℕ)) % 256 = (j 1 : ℕ); omega

variable (m : (ℓ : Loc nD τ sig) → Buf (Elt F) ℓ) (ρ : Dev nD → PrngReg)

/-- The finished result block, the same on every device: each piece as its device added it up. -/
def outC (i : S512x512.Idx) : Elt F .f32 := fin m ρ (devOf i) (halfOf i) (inOf i)

theorem outC_emb (p : Dev nD) (h : Fin 2) (j : S64x256.Idx) : outC m ρ ((halfR p h).emb j) = fin m ρ p h j := by
  unfold outC; rw [devOf_emb, halfOf_emb, inOf_emb]

/-- The finished pieces are the finished block. -/
theorem out_join (c : Dev nD) : iprop((bigSep Finset.univ fun p : Dev nD => holds c (halfM p 0) fullShare (fin m ρ p 0))
      ∗ bigSep Finset.univ fun p : Dev nD => holds c (halfM p 1) fullShare (fin m ρ p 1))
    ⊢ holds c oM fullShare (outC m ρ) := by
  refine BI.Entails.trans ?_ (owns_of_rects (c : Thread nD τ) oM fullShare (fun t : Dev nD × Fin 2 => halfR t.1 t.2) (fun _ _ => rfl) halfR_disj halfR_cover (outC m ρ))
  rw [bigSep_univ_prod, ← bigSep_sep']
  refine bigSep_mono fun p _ => ?_
  rw [bigSep_univ_eq_bigSepL [0, 1] (by decide) (by decide), bigSepL_cons_cons, bigSepL_singleton,
    show (fun j => outC m ρ ((halfR p 0).emb j)) = fin m ρ p 0 from funext fun j => outC_emb m ρ p 0 j,
    show (fun j => outC m ρ ((halfR p 1).emb j)) = fin m ρ p 1 from funext fun j => outC_emb m ρ p 1 j]
  exact BI.Entails.refl _

/-! ## A piece read by seven copies at once -/

/-- A piece holding `v` is its points-to at any contents that read `v`. -/
theorem holds_at (c : Dev nD) {s : Shape} (M : Memref sig .tc .vmem s .f32) (q : PosShare TreeShare) (v : s.Idx → Elt F .f32)
    (g : Buf (Elt F) (M.view.loc (c : Thread nD τ))) (hg : M.view.read (Elt F) g = v) :
    holds c M q v ⊢ (M.view.loc (c : Thread nD τ) ↦[M.view.set]{q} g) := by
  iintro H
  ihave H := (holds_open c M q v) $$ H
  icases H with ⟨%f, %hf, H⟩
  rw [show (M.view.loc (c : Thread nD τ) ↦[M.view.set]{q} g : sProp 𝕄) = (M.view.loc (c : Thread nD τ) ↦[M.view.set]{q} f) from
    pointsTo_congr fun i hi => by
      rw [View.set, Finset.mem_map] at hi
      obtain ⟨j, -, rfl⟩ := hi
      have := congrFun (hg.trans hf.symm) j
      simp only [View.read] at this
      exact (cast_inj _).mp this]
  iexact H

/-- A piece owned outright is a remainder and seven read shares of it, -/
theorem share_split (c : Dev nD) {s : Shape} (M : Memref sig .tc .vmem s .f32) (v : s.Idx → Elt F .f32) :
    holds c M fullShare v ⊢ iprop(holds c M (shareDrop fullShare 7) v ∗ bigSep Finset.univ fun i : Fin 7 => holds c M (shareTok fullShare 7 i) v) := by
  iintro H
  ihave H := (holds_open c M fullShare v) $$ H
  icases H with ⟨%f, %hf, H⟩
  ihave H := (Transfers.pointsTo_toks_split fullShare 7) $$ H
  iapply (show _ ⊢ _ from BI.sep_mono (holds_close c M _ v f hf) (bigSep_mono fun i _ => holds_close c M _ v f hf)) $$ H

/-- and back. -/
theorem share_join (c : Dev nD) {s : Shape} (M : Memref sig .tc .vmem s .f32) (v : s.Idx → Elt F .f32) :
    iprop(holds c M (shareDrop fullShare 7) v ∗ bigSep Finset.univ fun i : Fin 7 => holds c M (shareTok fullShare 7 i) v) ⊢ holds c M fullShare v := by
  iintro ⟨H, HT⟩
  ihave H := (holds_open c M _ v) $$ H
  icases H with ⟨%f, %hf, H⟩
  iapply (holds_close c M fullShare v f hf)
  iapply (Transfers.pointsTo_toks_join fullShare 7)
  isplitl [H]; · iexact H
  iapply (show _ ⊢ _ from bigSep_mono fun i _ => holds_at c M _ v f hf) $$ HT

end Cert.Allreduce
-- ==== Proof.Body.lean ====
/-
The kernel on one device: the phases one after another.
-/
module

public import proofs.«01_k».proof.Proof.Parts
public import proofs.«01_k».proof.Proof.Joins

@[expose] public section

noncomputable section

namespace Cert.Allreduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ) (c : Dev nD)

/-! ## What the kernel starts from and ends with -/

/-- The duties of the signals a device sends, -/
def BarTok (j : Fin 7) : sProp 𝕄 := dutyTok ER (bar (peer c j)) 0 j.rev
/-- the duties of the two cells that its copy of half `h` back to peer `j` pays, -/
def TokB (h : Fin 2) (j : Fin 7) : sProp 𝕄 := iprop(dutyTok ER (cell c 2 h j) 0 0 ∗ dutyTok ER (cell (peer c j) 3 h j.rev) 0 0)
/-- the positions at a kind's cells, -/
def At (kk : Fin 4) (h : Fin 2) : sProp 𝕄 := bigSep Finset.univ fun i : Fin 7 => atPos ER (cell c kk h i) 0 ∅ 0
/-- and a kind's cells to wait on. -/
def Wait (kk : Fin 4) (h : Fin 2) : sProp 𝕄 := bigSep Finset.univ fun i : Fin 7 => Wt (F := F) c kk h i

/-- A device's part of the schedule. -/
def Ghost : sProp 𝕄 := iprop((bigSep Finset.univ fun j => BarTok (F := F) c j) ∗ (atPos ER (bar c) 0 ∅ 0 ∗ cred (tallyAt (bar c) () 7))
  ∗ ((bigSep Finset.univ fun j => Tok (F := F) c 0 j) ∗ bigSep Finset.univ fun j => Tok (F := F) c 1 j)
  ∗ ((bigSep Finset.univ fun j => TokB (F := F) c 0 j) ∗ bigSep Finset.univ fun j => TokB (F := F) c 1 j)
  ∗ (At (F := F) c 0 0 ∗ At (F := F) c 0 1) ∗ (At (F := F) c 2 0 ∗ At (F := F) c 2 1)
  ∗ (Wait (F := F) c 1 0 ∗ Wait (F := F) c 1 1) ∗ (Wait (F := F) c 3 0 ∗ Wait (F := F) c 3 1))

/-- The counters of the transfer cells, all at zero. -/
def Zeros : sProp 𝕄 := iprop((Zero (F := F) c 0 0 ∗ Zero (F := F) c 0 1) ∗ (Zero (F := F) c 1 0 ∗ Zero (F := F) c 1 1)
  ∗ (Zero (F := F) c 2 0 ∗ Zero (F := F) c 2 1) ∗ (Zero (F := F) c 3 0 ∗ Zero (F := F) c 3 1))

/-- What the kernel starts from: its part of the schedule, the two inputs, and the three buffers it fills. -/
def BodyPre : sProp 𝕄 := iprop(Cur m ρ K c 0 ∗ Ghost (F := F) c ∗ (holds c aM fullShare (xa m ρ c) ∗ holds c bM fullShare (xb m ρ c))
  ∗ anyAt (F := F) c oM ∗ anyAt (F := F) c (lM 0) ∗ anyAt (F := F) c (lM 1))
/-- What it ends with: nothing owed, the inputs as they were, the finished result, and every counter at zero. -/
def BodyPost : sProp 𝕄 := iprop(Cur m ρ K c 35 ∗ (holds c aM fullShare (xa m ρ c) ∗ holds c bM fullShare (xb m ρ c))
  ∗ holds c oM fullShare (outC m ρ) ∗ (anyAt (F := F) c (lM 0) ∗ anyAt (F := F) c (lM 1)) ∗ semVal (bar c) 0 ∗ Zeros (F := F) c)

theorem same (P : sProp 𝕄) : P ⊢ P := BI.Entails.refl P

/-- Two programs one after the other. -/
theorem run_bind {α β : Type} {p : Prog (TpuEff nD τ sig (Elt F) Λ₀ .tc) α} {k : α → Prog (TpuEff nD τ sig (Elt F) Λ₀ .tc) β}
    {Q : β → sProp (MT nD τ sig Unit (Elt F) ℕ UU ℕ)} : run c p (fun x => run c (k x) Q) ⊢ run c (p >>= k) Q := by
  show _ ⊢ wp _ _ _ _ _
  rw [wp_bind]

/-! ## Between the phases -/

theorem sst_intro : iprop(Cur m ρ K c 0 ∗ (bigSep Finset.univ fun j => BarTok (F := F) c j) ∗ anyAt (F := F) c (lM 0) ∗ anyAt (F := F) c (lM 1)) ⊢ SSt m ρ K c 0 := by
  unfold SSt
  rw [seg_all]; unfold Sig BarTok
  rw [bigSep_sep', bigSep_sep']
  exact sep_mono_right (sep_mono_right (BI.sep_mono (slots_split c 0) (slots_split c 1)))

theorem sst_elim : SSt m ρ K c 7 ⊢ Cur m ρ K c 7 := by
  unfold SSt
  iintro ⟨H, -⟩; iexact H

theorem mst_intro : iprop((holds c aM fullShare (xa m ρ c) ∗ holds c bM fullShare (xb m ρ c)) ∗ anyAt (F := F) c oM)
    ⊢ iprop(MSt m ρ c 0 0 0 ∗ anyAt (F := F) c (rowM c)) := by
  unfold MSt
  rw [seg_all, seg_nil, seg_nil]; unfold Raw
  iintro ⟨⟨HA, HB⟩, HO⟩
  ihave HO := (out_split c) $$ HO
  icases HO with ⟨HC, HO⟩
  isplitr [HC]
  · isplitl [HA]; · iexact HA
    isplitl [HB]; · iexact HB
    isplitl [HO]; · iexact HO
    isplitr <;> iempintro
  iexact HC

theorem rst_elim : RSt m ρ K c 7 7 7 ⊢ iprop(Cur m ρ K c 21 ∗ (holds c aM fullShare (xa m ρ c) ∗ holds c bM fullShare (xb m ρ c))
    ∗ (bigSep Finset.univ fun j => Crd (F := F) c 0 0 j) ∗ bigSep Finset.univ fun j => Crd (F := F) c 0 1 j) := by
  unfold RSt MSt CSt
  rw [seg_all (Crd (F := F) c 0 0), seg_all (Crd (F := F) c 0 1)]
  iintro ⟨HC, ⟨HA, HB, -⟩, -, -, H0, H1⟩
  isplitl [HC]; · iexact HC
  isplitl [HA HB]; · isplitl [HA] <;> iassumption
  isplitl [H0] <;> iassumption

theorem wts_rev (kk : Fin 4) (h : Fin 2) : Wait (F := F) c kk h ⊢ Wts (F := F) c kk h Fin.rev := by
  unfold Wait Wts
  rw [seg_all, bigSep_rev fun j => Wt (F := F) c kk h j]

theorem wts_id (kk : Fin 4) (h : Fin 2) : iprop(At (F := F) c kk h ∗ bigSep Finset.univ fun j => Crd (F := F) c kk h j) ⊢ Wts (F := F) c kk h id := by
  unfold At Wts Wt
  rw [seg_all]
  simp only [id]
  rw [bigSep_sep']

/-- The finished piece, its read shares dealt out, and the peers' pieces it goes to: the copies back are ready. -/
theorem ast_intro (cn : ℕ) (h : Fin 2) (hcn : cn = 21 + 7 * h.val) :
    iprop(AccSt m ρ K c cn h (fin m ρ c h) ∗ bigSep Finset.univ fun j => TokB (F := F) c h j)
    ⊢ iprop(ASt m ρ K c h 0 ∗ holds c (halfM c h) (shareDrop fullShare 7) (fin m ρ c h) ∗ Slots m ρ c h ∗ Zero (F := F) c 1 h) := by
  subst hcn
  unfold AccSt ASt TokB Dst
  rw [seg_nil, seg_all]; unfold Back
  simp only [bigSep_sep']
  iintro ⟨⟨HC, HO, HS, HD, HZ⟩, T2, T3⟩
  ihave HO := (share_split c (halfM c h) (fin m ρ c h)) $$ HO
  icases HO with ⟨HO, HT⟩
  isplitl [HC HT HD T2 T3]
  · isplitl [HC]; · iexact HC
    isplitl [HT HD T2 T3]
    · isplitl [HT]; · iexact HT
      isplitl [HD]
      · iapply (show _ ⊢ _ from bigSep_mono fun s _ => anyAt_intro (peer c s) (halfM c h) (part m ρ (peer c s) c h)) $$ HD
      isplitl [T2] <;> iassumption
    iempintro
  isplitl [HO]; · iexact HO
  isplitl [HS] <;> iassumption

theorem ast_elim (h : Fin 2) : ASt m ρ K c h 7 ⊢ iprop(Cur m ρ K c (21 + 7 * h.val + 7) ∗ bigSep Finset.univ fun j => Crd (F := F) c 2 h j) := by
  unfold ASt
  rw [seg_all (Crd (F := F) c 2 h)]
  iintro ⟨HC, -, HD⟩
  isplitl [HC] <;> iassumption

theorem done_sent (h : Fin 2) (i : Fin 7) : Done m ρ c 0 h i ⊢ semVal (cell c 0 h i) 0 := by
  unfold Done
  iintro ⟨-, H⟩; iexact H

theorem dones_sent (h : Fin 2) : Dones m ρ c 0 h id ⊢ Zero (F := F) c 0 h := by
  unfold Dones Zero
  rw [seg_all]
  exact bigSep_mono fun i _ => done_sent m ρ c h i

theorem dones_back (h : Fin 2) : Dones m ρ c 2 h id
    ⊢ iprop((bigSep Finset.univ fun i : Fin 7 => holds c (halfM c h) (shareTok fullShare 7 i) (fin m ρ c h)) ∗ Zero (F := F) c 2 h) := by
  unfold Dones Zero
  rw [seg_all, ← bigSep_sep']
  exact bigSep_mono fun i _ => BI.Entails.refl _

theorem dones_got (h : Fin 2) : Dones m ρ c 3 h Fin.rev
    ⊢ iprop((bigSep Finset.univ fun i : Fin 7 => holds c (halfM (peer c i) h) fullShare (fin m ρ (peer c i) h)) ∗ Zero (F := F) c 3 h) := by
  unfold Dones Zero
  rw [seg_all, bigSep_rev fun j => Done m ρ c 3 h j, ← bigSep_sep']
  exact bigSep_mono fun i _ => BI.Entails.refl _

/-- Half `h` of the result: the own piece, whose read shares have come back, and the peers'. -/
theorem half_done (h : Fin 2) : iprop(holds c (halfM c h) (shareDrop fullShare 7) (fin m ρ c h)
      ∗ (bigSep Finset.univ fun i : Fin 7 => holds c (halfM c h) (shareTok fullShare 7 i) (fin m ρ c h))
      ∗ bigSep Finset.univ fun i : Fin 7 => holds c (halfM (peer c i) h) fullShare (fin m ρ (peer c i) h))
    ⊢ bigSep Finset.univ fun p : Dev nD => holds c (halfM p h) fullShare (fin m ρ p h) := by
  rw [bigSep_devs c]
  iintro ⟨HD, HT, HP⟩
  isplitl [HD HT]
  · iapply (share_join c (halfM c h) (fin m ρ c h))
    isplitl [HD] <;> iassumption
  iexact HP

/-! ## The kernel -/

/-- The kernel on device `c`, from start to end. -/
theorem body_spec : BodyPre m ρ K c ⊢ run c (onArgs (cc0_body (F := F))) (fun _ => BodyPost m ρ K c) := by
  rw [cc0_body_eq_skeleton]; unfold cc0_body_skel
  simp only [onArgs]
  unfold BodyPre Ghost
  iintro ⟨HC, ⟨HBT, HB, ⟨T0, T1⟩, ⟨B0, B1⟩, ⟨A00, A01⟩, ⟨A20, A21⟩, ⟨W10, W11⟩, W30, W31⟩, HX, HO, L0, L1⟩
  ihave H := (sst_intro m ρ K c) $$ [HC HBT L0 L1]
  · isplitl [HC]; · iexact HC
    isplitl [HBT]; · iexact HBT
    isplitl [L0] <;> iassumption
  iapply run_bind
  iapply (part1_spec m ρ K c) $$ H
  iintro %v2 %v30 %w %z H
  dsimp only
  iapply run_bind
  iapply (part2_spec m ρ K c) $$ H
  iintro %x H
  iapply run_bind
  iapply (part3_spec m ρ K c) $$ H
  iintro %x H
  ihave HC := (sst_elim m ρ K c) $$ H
  ihave HM := (mst_intro m ρ c) $$ [HX HO]
  · isplitl [HX] <;> iassumption
  icases HM with ⟨HM, HO⟩
  ihave H := (same iprop(Cur m ρ K c 7 ∗ MSt m ρ c 0 0 0 ∗ (atPos ER (bar c) 0 ∅ 0 ∗ cred (tallyAt (bar c) () 7))
      ∗ (bigSep Finset.univ fun j => Tok (F := F) c 0 j) ∗ bigSep Finset.univ fun j => Tok (F := F) c 1 j)) $$ [HC HM HB T0 T1]
  · isplitl [HC]; · iexact HC
    isplitl [HM]; · iexact HM
    isplitl [HB]; · iexact HB
    isplitl [T0] <;> iassumption
  iapply run_bind
  iapply (part4_spec m ρ K c) $$ H
  iintro %x H HV
  iapply run_bind
  iapply (part5_spec m ρ K c) $$ H
  iintro %x H
  iapply run_bind
  iapply (part6_spec m ρ K c) $$ H
  iintro %v186 H
  dsimp only
  iapply run_bind
  iapply (part7_spec m ρ K c) $$ H
  iintro %x H
  iapply run_bind
  iapply (part8_spec m ρ K c) $$ H
  iintro %x H
  iapply run_bind
  iapply (part9_spec m ρ K c) $$ H
  iintro %x H
  iapply run_bind
  iapply (part10_spec m ρ K c) $$ H
  iintro %x H
  iapply run_bind
  iapply (part11_spec m ρ K c) $$ H
  iintro %x H
  ihave H := (same iprop(RSt m ρ K c 7 6 6 ∗ anyAt (F := F) c (rowM c))) $$ [H HO]
  · isplitl [H] <;> iassumption
  iapply run_bind
  iapply (part12_spec m ρ K c) $$ H
  iintro %x ⟨H, O0, O1⟩
  ihave H := (rst_elim m ρ K c) $$ H
  icases H with ⟨HC, HX, D00, D01⟩
  ihave W10 := (wts_rev c 1 0) $$ W10
  ihave H := (wst_intro m ρ K c 1 0 Fin.rev 21) $$ [HC W10]
  · isplitl [HC] <;> iassumption
  iapply run_bind
  iapply (part13_spec m ρ K c) $$ H
  iintro %x H
  ihave H := (same iprop(WSt m ρ K c 1 0 Fin.rev 21 4 ∗ holds c (halfM c 0) fullShare (part m ρ c c 0))) $$ [H O0]
  · isplitl [H] <;> iassumption
  iapply run_bind
  iapply (part14_spec m ρ K c) $$ H
  iintro H
  iapply run_bind
  iapply (part15_spec m ρ K c) $$ H
  iintro %x H
  ihave H := (ast_intro m ρ K c 21 0 rfl) $$ [H B0]
  · isplitl [H] <;> iassumption
  icases H with ⟨H, O0, L0, Z10⟩
  iapply run_bind
  iapply (part16_spec m ρ K c) $$ H
  iintro %x H
  iapply run_bind
  iapply (part17_spec m ρ K c) $$ H
  iintro %x H
  iapply run_bind
  iapply (part18_spec m ρ K c) $$ H
  iintro %x H
  iapply run_bind
  iapply (part19_spec m ρ K c) $$ H
  iintro %x H
  ihave H := (ast_elim m ρ K c 0) $$ H
  icases H with ⟨HC, D20⟩
  ihave W11 := (wts_rev c 1 1) $$ W11
  ihave H := (wst_intro m ρ K c 1 1 Fin.rev 28) $$ [HC W11]
  · isplitl [HC] <;> iassumption
  iapply run_bind
  iapply (part20_spec m ρ K c) $$ H
  iintro %x H
  ihave H := (same iprop(WSt m ρ K c 1 1 Fin.rev 28 4 ∗ holds c (halfM c 1) fullShare (part m ρ c c 1))) $$ [H O1]
  · isplitl [H] <;> iassumption
  iapply run_bind
  iapply (part21_spec m ρ K c) $$ H
  iintro H
  iapply run_bind
  iapply (part22_spec m ρ K c) $$ H
  iintro %x H
  ihave H := (ast_intro m ρ K c 28 1 rfl) $$ [H B1]
  · isplitl [H] <;> iassumption
  icases H with ⟨H, O1, L1, Z11⟩
  iapply run_bind
  iapply (part23_spec m ρ K c) $$ H
  iintro %x H
  iapply run_bind
  iapply (part24_spec m ρ K c) $$ H
  iintro %x H
  iapply run_bind
  iapply (part25_spec m ρ K c) $$ H
  iintro %x H
  iapply run_bind
  iapply (part26_spec m ρ K c) $$ H
  iintro %x H
  ihave H := (ast_elim m ρ K c 1) $$ H
  icases H with ⟨HC, D21⟩
  ihave W30 := (wts_rev c 3 0) $$ W30
  ihave W31 := (wts_rev c 3 1) $$ W31
  ihave H := (wst_intro m ρ K c 3 0 Fin.rev 35) $$ [HC W30]
  · isplitl [HC] <;> iassumption
  iapply run_bind
  iapply (part27_spec m ρ K c) $$ H
  iintro %x H
  ihave H := (same iprop(WSt m ρ K c 3 0 Fin.rev 35 5 ∗ Wts (F := F) c 3 1 Fin.rev)) $$ [H W31]
  · isplitl [H] <;> iassumption
  iapply run_bind
  iapply (part28_spec m ρ K c) $$ H
  iintro %x ⟨H, E30⟩
  iapply run_bind
  iapply (part29_spec m ρ K c) $$ H
  iintro %x H
  ihave H := (wst_elim m ρ K c 3 1 Fin.rev 35) $$ H
  icases H with ⟨HC, E31⟩
  ihave A00 := (wts_id c 0 0) $$ [A00 D00]
  · isplitl [A00] <;> iassumption
  ihave A01 := (wts_id c 0 1) $$ [A01 D01]
  · isplitl [A01] <;> iassumption
  ihave H := (wst_intro m ρ K c 0 0 id 35) $$ [HC A00]
  · isplitl [HC] <;> iassumption
  iapply run_bind
  iapply (part30_spec m ρ K c) $$ H
  iintro %x H
  ihave H := (same iprop(WSt m ρ K c 0 0 id 35 4 ∗ Wts (F := F) c 0 1 id)) $$ [H A01]
  · isplitl [H] <;> iassumption
  iapply run_bind
  iapply (part31_spec m ρ K c) $$ H
  iintro %x ⟨H, E00⟩
  iapply run_bind
  iapply (part32_spec m ρ K c) $$ H
  iintro %x H
  ihave H := (wst_elim m ρ K c 0 1 id 35) $$ H
  icases H with ⟨HC, E01⟩
  ihave A20 := (wts_id c 2 0) $$ [A20 D20]
  · isplitl [A20] <;> iassumption
  ihave A21 := (wts_id c 2 1) $$ [A21 D21]
  · isplitl [A21] <;> iassumption
  ihave H := (wst_intro m ρ K c 2 0 id 35) $$ [HC A20]
  · isplitl [HC] <;> iassumption
  iapply run_bind
  iapply (part33_spec m ρ K c) $$ H
  iintro %x H
  ihave H := (same iprop(WSt m ρ K c 2 0 id 35 6 ∗ Wts (F := F) c 2 1 id)) $$ [H A21]
  · isplitl [H] <;> iassumption
  iapply run_bind
  iapply (part34_spec m ρ K c) $$ H
  iintro %x ⟨H, E20⟩
  simp only [Prog.lift, Prog.bind_op, Prog.bind_ret, Prog.pure_eq_ret]
  iapply (ph_wait m ρ K c 2 1 id 35 5 (by decide) (by decide) rfl N_at) $$ H
  iintro H
  iapply (ph_wait m ρ K c 2 1 id 35 6 (by decide) (by decide) rfl N_at) $$ H
  iintro H
  iapply ret_intro
  ihave H := (wst_elim m ρ K c 2 1 id 35) $$ H
  icases H with ⟨HC, E21⟩
  ihave E00 := (dones_sent m ρ c 0) $$ E00
  ihave E01 := (dones_sent m ρ c 1) $$ E01
  ihave E20 := (dones_back m ρ c 0) $$ E20
  icases E20 with ⟨S0, E20⟩
  ihave E21 := (dones_back m ρ c 1) $$ E21
  icases E21 with ⟨S1, E21⟩
  ihave E30 := (dones_got m ρ c 0) $$ E30
  icases E30 with ⟨P0, E30⟩
  ihave E31 := (dones_got m ρ c 1) $$ E31
  icases E31 with ⟨P1, E31⟩
  unfold BodyPost Zeros Slots
  isplitl [HC]; · iexact HC
  isplitl [HX]; · iexact HX
  isplitl [O0 S0 P0 O1 S1 P1]
  · iapply (out_join m ρ c)
    isplitl [O0 S0 P0]
    · iapply (half_done m ρ c 0)
      isplitl [O0]; · iexact O0
      isplitl [S0] <;> iassumption
    · iapply (half_done m ρ c 1)
      isplitl [O1]; · iexact O1
      isplitl [S1] <;> iassumption
  isplitl [L0 L1]
  · isplitl [L0]
    · iapply (slots_join c 0 fun s => part m ρ (peer c s) c 0); iexact L0
    · iapply (slots_join c 1 fun s => part m ρ (peer c s) c 1); iexact L1
  isplitl [HV]; · iexact HV
  isplitl [E00 E01]; · isplitl [E00] <;> iassumption
  isplitl [Z10 Z11]; · isplitl [Z10] <;> iassumption
  isplitl [E20 E21]; · isplitl [E20] <;> iassumption
  isplitl [E30] <;> iassumption

end Cert.Allreduce
-- ==== Proof.Deal.lean ====
/-
What the launch deals the devices: the cells' invariants, the duties each device pays, and the credit of what its
peers owe it.
-/
module

public import proofs.«01_k».proof.Proof.Body

@[expose] public section

noncomputable section

namespace Cert.Allreduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Families over a device's cells -/

abbrev XI : Type := Fin 4 × Fin 2 × Fin 7

/-- A family over the transfer cells, kind by kind and half by half. -/
theorem bigSep_xfers (Φ : XI → sProp 𝕄) : bigSep Finset.univ Φ
    = iprop(((bigSep Finset.univ fun i => Φ (0, 0, i)) ∗ bigSep Finset.univ fun i => Φ (0, 1, i))
      ∗ ((bigSep Finset.univ fun i => Φ (1, 0, i)) ∗ bigSep Finset.univ fun i => Φ (1, 1, i))
      ∗ ((bigSep Finset.univ fun i => Φ (2, 0, i)) ∗ bigSep Finset.univ fun i => Φ (2, 1, i))
      ∗ ((bigSep Finset.univ fun i => Φ (3, 0, i)) ∗ bigSep Finset.univ fun i => Φ (3, 1, i))) := by
  rw [bigSep_univ_prod, bigSep_univ_eq_bigSepL [0, 1, 2, 3] (by decide) (by decide)]
  simp only [bigSepL_cons_cons, bigSepL_singleton]
  rw [bigSep_univ_prod, bigSep_univ_prod, bigSep_univ_prod, bigSep_univ_prod]
  simp only [BI.bigSep_univ_two]
  rfl

/-- A family over a device's cells: the barrier's member and the transfers'. -/
theorem bigSep_cells (Φ : CI → sProp 𝕄) : bigSep Finset.univ Φ = iprop(Φ none ∗ bigSep Finset.univ fun x : XI => Φ (some x)) := by
  rw [bigSep_univ_equiv (Equiv.optionEquivSumPUnit.{0, 0} XI).symm, BI.bigSep_univ_sum, BI.bigSep_univ_of_subsingleton PUnit.unit]
  exact BI.Entails.antisymm BI.sep_comm BI.sep_comm

/-- Members dealt round the ring: what device `c` has for its peer `j` goes to that peer. -/
theorem around (Φ : Dev nD → Fin 7 → sProp 𝕄) : (bigSep Finset.univ fun c => bigSep Finset.univ fun j => Φ c j)
    = bigSep Finset.univ fun c => bigSep Finset.univ fun j : Fin 7 => Φ (peer c j) j.rev := by
  rw [BI.bigSep_univ_comm, BI.bigSep_univ_comm fun (c : Dev nD) (j : Fin 7) => Φ (peer c j) j.rev, ← bigSep_rev]
  exact bigSep_congr fun j _ => bigSep_univ_equiv (shift j) fun c => Φ c j.rev

/-! ## Cells, duties and the element they are minted from -/

theorem dsem_inj {x y : XI} (h : dsem x.1 x.2.1 x.2.2 = dsem y.1 y.2.1 y.2.2) : x = y := by
  refine Prod.ext ?_ (Prod.ext ?_ ?_)
  · rw [← kOf_dsem x.1 x.2.1 x.2.2, h, kOf_dsem]
  · rw [← hOf_dsem x.1 x.2.1 x.2.2, h, hOf_dsem]
  · rw [← iOf_dsem x.1 x.2.1 x.2.2, h, iOf_dsem]

theorem csem_injective : Function.Injective csem := fun k k' h => by
  match k, k', h with
  | none, none, _ => rfl
  | some x, some y, h => exact congrArg some (dsem_inj (SemLoc.dma.inj h))

theorem kcell_injective : Function.Injective kcell := fun ck ck' h =>
  Prod.ext (congrArg (fun g : GSem nD τ sig => g.1.1) h) (csem_injective (congrArg Prod.snd h))

def allCells : Finset (GSem nD τ sig) := Finset.univ.map ⟨kcell, kcell_injective⟩

/-- A device's duties as minted: its barrier's seven, and one at each transfer cell. -/
abbrev TI : Type := Fin 7 ⊕ XI
abbrev tokOf (ct : Dev nD × TI) : GSem nD τ sig × ℕ × Fin 7 := match ct.2 with
  | .inl i => (bar ct.1, 0, i)
  | .inr x => (cell ct.1 x.1 x.2.1 x.2.2, 0, 0)
theorem tokOf_injective : Function.Injective tokOf := fun ct ct' h => by
  obtain ⟨c, t⟩ := ct
  obtain ⟨c', t'⟩ := ct'
  have hc (g g' : GSem nD τ sig) (d d' : Fin 7) (h : (g, (0 : ℕ), d) = (g', 0, d')) : g = g' ∧ d = d' :=
    ⟨congrArg Prod.fst h, congrArg (fun x => x.2.2) h⟩
  match t, t', h with
  | .inl i, .inl j, h =>
    obtain ⟨h1, rfl⟩ := hc _ _ _ _ h
    rw [show c = c' from congrArg (fun g : GSem nD τ sig => g.1.1) h1]
  | .inl i, .inr x, h => exact absurd (congrArg Prod.snd (hc _ _ _ _ h).1) (fun h => by cases h)
  | .inr x, .inl j, h => exact absurd (congrArg Prod.snd (hc _ _ _ _ h).1) (fun h => by cases h)
  | .inr x, .inr y, h =>
    obtain ⟨h1, -⟩ := hc _ _ _ _ h
    rw [show c = c' from congrArg (fun g : GSem nD τ sig => g.1.1) h1, dsem_inj (SemLoc.dma.inj (congrArg Prod.snd h1))]
def allToks : Finset (GSem nD τ sig × ℕ × Fin 7) := Finset.univ.map ⟨tokOf, tokOf_injective⟩

def u₀ : UU := (initOf (Pipeline.cells cfgs cellOf_inj) (Pipeline.launchToks cfgs cellOf_inj), initOf allCells allToks)

/-- The duties of device `c`'s own cells, -/
def toks (c : Dev nD) : sProp 𝕄 := iprop((bigSep Finset.univ fun i : Fin 7 => dutyTok ER (bar c) 0 i)
  ∗ bigSep Finset.univ fun x : XI => dutyTok ER (cell c x.1 x.2.1 x.2.2) 0 0)
/-- and the duties it pays. -/
def payToks (c : Dev nD) : sProp 𝕄 := iprop((bigSep Finset.univ fun j => BarTok (F := F) c j)
  ∗ ((bigSep Finset.univ fun j => Tok (F := F) c 0 j) ∗ bigSep Finset.univ fun j => Tok (F := F) c 1 j)
  ∗ ((bigSep Finset.univ fun j => TokB (F := F) c 0 j) ∗ bigSep Finset.univ fun j => TokB (F := F) c 1 j))

/-- Every device's own duties, dealt to the devices that pay them. -/
theorem toks_around : (bigSep Finset.univ fun c : Dev nD => toks (F := F) c) ⊢ bigSep Finset.univ fun c : Dev nD => payToks (F := F) c := by
  unfold toks payToks BarTok Tok TokB
  simp only [bigSep_xfers, bigSep_sep']
  rw [around fun c j => dutyTok ER (bar c) 0 j, around fun c j => dutyTok ER (cell c 1 0 j) 0 0, around fun c j => dutyTok ER (cell c 1 1 j) 0 0,
    around fun c j => dutyTok ER (cell c 3 0 j) 0 0, around fun c j => dutyTok ER (cell c 3 1 j) 0 0]
  iintro ⟨HB, ⟨H00, H01⟩, ⟨H10, H11⟩, ⟨H20, H21⟩, H30, H31⟩
  isplitl [HB]; · iexact HB
  isplitl [H00 H01 H10 H11]
  · isplitl [H00 H10]
    · isplitl [H00] <;> iassumption
    · isplitl [H01] <;> iassumption
  isplitl [H20 H30]
  · isplitl [H20] <;> iassumption
  · isplitl [H21] <;> iassumption

/-! ## From the minted element to every device's part -/

/-- What the minted element gives device `c`. -/
def G (c : Dev nD) : sProp 𝕄 :=
  iprop((bigSep Finset.univ fun k : CI => roundState ER (Rd m ρ) (kcell (c, k)) 0)
    ∗ ((bigSep Finset.univ fun k : CI => atPos ER (kcell (c, k)) 0 ∅ 0) ∗ bigSep Finset.univ fun k : CI => reached ER (kcell (c, k)) 0) ∗ toks (F := F) c)

/-- What device `c` alone holds of the schedule. -/
def linear (c : Dev nD) : sProp 𝕄 := iprop((bigSep Finset.univ fun k : CI => atPos ER (kcell (c, k)) 0 ∅ 0) ∗ payToks (F := F) c)
/-- What every device ends up with, at some names of the cells. -/
def G' (c : Dev nD) : sProp 𝕄 := iprop(∃ K, records m ρ K ∗ linear (F := F) c)

theorem fund : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : CI => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [BI.bigSep_univ_sum]; rfl
  iintro HX
  imod (Rounds.fund ER (Rd m ρ) allCells allToks) $$ HX with ⟨Hst, Hr, Hat, Htok⟩
  imodintro
  ihave Hst := (Entails.of_eq (hX fun g => roundState ER (Rd m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-- The kernel's own semaphores are the transfers'; -/
abbrev osem (x : XI) : SemLoc sig := .dma (dsem x.1 x.2.1 x.2.2)

/-- the barrier's is the one no kernel owns. -/
theorem unscoped_eq (c : Dev nD) : (unscopedSems0 c : sProp 𝕄) = semVal (bar c) 0 := by
  unfold unscopedSems0; rw [bigSep_eq_bigSepL_of_eq [SemLoc.reg barS] (by decide) (by decide)]; rfl

theorem own_eq (c : Dev nD) : (Pipeline.ownSems0 (Ix := Unit) (Name := ℕ) (U := UU) (Lvl := ℕ) (Val := Elt F) (τ := τ) osem c : sProp 𝕄) = Zeros (F := F) c := by
  unfold Pipeline.ownSems0 Zeros Zero
  rw [bigSep_xfers]

theorem alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CI => iprop(∃ κ : ℕ, cellInv ER (Rd m ρ) κ (kcell (c, k))))
          ∗ ((bigSep Finset.univ fun k : CI => atPos ER (kcell (c, k)) 0 ∅ 0) ∗ bigSep Finset.univ fun k : CI => reached ER (kcell (c, k)) 0) ∗ toks (F := F) c) := by
  unfold G
  iintro ⟨Ho, Hu, Hst, Hrest⟩
  ihave Hv := (show iprop(unscopedSems0 c ∗ Pipeline.ownSems0 (Ix := Unit) (Name := ℕ) (U := UU) (Lvl := ℕ) (Val := Elt F) (τ := τ) osem c)
      ⊢ (bigSep Finset.univ fun k : CI => semVal (kcell (c, k)) 0 : sProp 𝕄) from by rw [unscoped_eq, bigSep_cells]; exact BI.Entails.refl _) $$ [Ho Hu]
  · isplitl [Hu] <;> iassumption
  imod (show iprop((bigSep Finset.univ fun k : CI => semVal (kcell (c, k)) 0) ∗ bigSep Finset.univ fun k : CI => roundState ER (Rd m ρ) (kcell (c, k)) 0)
      ⊢ (|={Set.univ}=> bigSep Finset.univ fun k : CI => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  iexact Hrest

theorem part_intro (K : Dev nD × CI → ℕ) (c : Dev nD) : iprop(records m ρ K ∗ linear (F := F) c) ⊢ G' m ρ c := by
  unfold G'; iintro H; iexists K; iexact H

/-- What every member of a family needs a copy of, given once. -/
theorem bigSep_shared {I : Type} [DecidableEq I] {S : Finset I} {R : sProp (MT nD τ sig Unit (Elt F) ℕ UU ℕ)} [BI.Persistent R]
    {Φ Ψ : I → sProp (MT nD τ sig Unit (Elt F) ℕ UU ℕ)}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CI => iprop(∃ κ : ℕ, cellInv ER (Rd m ρ) κ (kcell (c, k))))
          ∗ ((bigSep Finset.univ fun k : CI => atPos ER (kcell (c, k)) 0 ∅ 0) ∗ bigSep Finset.univ fun k : CI => reached ER (kcell (c, k)) 0) ∗ toks (F := F) c) : sProp 𝕄)
      ⊢ bigSep Finset.univ (G' m ρ) := by
  rw [bigSep_sep', bigSep_sep', bigSep_sep', ← bigSep_univ_prod (fun ck : Dev nD × CI => iprop(∃ κ : ℕ, cellInv ER (Rd m ρ) κ (kcell ck))),
    ← bigSep_univ_prod (fun ck : Dev nD × CI => (reached ER (kcell ck) 0 : sProp 𝕄))]
  iintro ⟨HI, ⟨Hat, HR⟩, Htok⟩
  ihave HK := (BI.bigSep_exists_pi Finset.univ (fun (ck : Dev nD × CI) (κ : ℕ) => (cellInv ER (Rd m ρ) κ (kcell ck) : sProp 𝕄))) $$ HI
  icases HK with ⟨%K, HI⟩
  ihave Htok := (toks_around (F := F)) $$ Htok
  iapply (bigSep_shared (R := records m ρ K) fun c _ => part_intro m ρ K c)
  isplitl [HI HR]
  · unfold records; isplitl [HI] <;> iassumption
  · unfold linear
    rw [bigSep_sep']
    isplitl [Hat] <;> iassumption

/-- From every device's counters at zero and the minted element: every device's part of the schedule. -/
theorem deal : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => alloc m ρ c).trans (bigSep_fupd _ _)).trans (BI.fupd_mono (regroup m ρ))

/-! ## What the devices owe at launch, and are owed -/

/-- Thirty-five terms counted through, and counted phase by phase. -/
theorem sum_steps {A : Type} [AddCommMonoid A] (f : ℕ → A) : ∑ i ∈ Finset.range 35, f i
    = (∑ j : Fin 7, f j.val) + ((∑ h : Fin 2, ∑ j : Fin 7, f (7 + 2 * j.val + h.val)) + ∑ h : Fin 2, ∑ j : Fin 7, f (21 + 7 * h.val + j.val)) := by
  simp [Finset.sum_range_succ, Fin.sum_univ_succ]
  ac_rfl

/-- A device's payments, cell by cell. -/
theorem owed_eq (c : Dev nD) : Owed c 0 = (∑ j : Fin 7, tallyAt (bar (peer c j)) () 1)
    + ((∑ h : Fin 2, ∑ j : Fin 7, tallyAt (cell (peer c j) 1 h j.rev) () N) + ∑ h : Fin 2, ∑ j : Fin 7, tallyAt (cell (peer c j) 3 h j.rev) () N) := by
  rw [Finset.sum_congr rfl fun j _ => (due_bar c j).symm,
    Finset.sum_congr rfl fun h _ => Finset.sum_congr rfl fun j _ => (due_rs c h j).symm,
    Finset.sum_congr (s₁ := (Finset.univ : Finset (Fin 2))) rfl fun h _ => Finset.sum_congr rfl fun j _ => (due_ag c h j).symm]
  unfold Owed
  rw [← Finset.range_eq_Ico]
  exact sum_steps (due c)

/-- One payment of every device to its peer `j`: the credit of device `c`'s own cell. -/
theorem cred_one (sm : SemLoc sig) (j : Fin 7) (n : ℕ) (c : Dev nD) :
    (Pipeline.launchCred (fun d => tallyAt ((peer d j : Thread nD τ), sm) () n) c : sProp 𝕄) ⊢ cred (tallyAt ((c : Thread nD τ), sm) () n) :=
  Pipeline.launchCred_tallyAt sm (fun d => peer d j) (fun d => peer d j.rev)
    (fun d => by have := peer_rev d j.rev; rwa [Fin.rev_rev] at this) (fun d => peer_rev d j) () n c

/-- The credit of the cells of a kind that peers pay. -/
theorem cred_kind (k : Fin 4) (n : ℕ) (c : Dev nD) :
    (Pipeline.launchCred (fun d => ∑ h : Fin 2, ∑ j : Fin 7, tallyAt (cell (peer d j) k h j.rev) () n) c : sProp 𝕄)
      ⊢ bigSep Finset.univ fun h : Fin 2 => bigSep Finset.univ fun j : Fin 7 => cred (tallyAt (cell c k h j) () n) := by
  rw [Pipeline.launchCred_sum]
  refine bigSep_mono fun h _ => ?_
  rw [Pipeline.launchCred_sum, ← bigSep_rev fun j => (cred (tallyAt (cell c k h j) () n) : sProp 𝕄)]
  exact bigSep_mono fun j _ => cred_one (.dma (dsem k h j.rev)) j n c

theorem cred_bar (c : Dev nD) :
    (Pipeline.launchCred (fun d => ∑ j : Fin 7, tallyAt (bar (peer d j)) () 1) c : sProp 𝕄) ⊢ cred (tallyAt (bar c) () 7) := by
  rw [Pipeline.launchCred_sum, show (tallyAt (bar c) () 7 : CellTallies nD τ sig Unit) = ∑ _j : Fin 7, tallyAt (bar c) () 1 from by
    simp only [Fin.sum_univ_succ, Fin.sum_univ_zero, tallyAt_add, add_zero], Pipeline.cred_finsetSum]
  exact bigSep_mono fun j _ => cred_one (.reg barS) j 1 c

/-- The credit the launch gives device `c`. -/
def credits (c : Dev nD) : sProp 𝕄 := iprop(cred (tallyAt (bar c) () 7)
  ∗ ((bigSep Finset.univ fun j => Crd (F := F) c 1 0 j) ∗ bigSep Finset.univ fun j => Crd (F := F) c 1 1 j)
  ∗ ((bigSep Finset.univ fun j => Crd (F := F) c 3 0 j) ∗ bigSep Finset.univ fun j => Crd (F := F) c 3 1 j))

theorem creds (c : Dev nD) : (Pipeline.launchCred (fun d => Owed d 0) c : sProp 𝕄) ⊢ credits (F := F) c := by
  rw [show (fun d : Dev nD => Owed d 0) = _ from funext owed_eq, Pipeline.launchCred_add, Pipeline.launchCred_add]
  unfold credits Crd
  rw [← BI.bigSep_univ_two fun h : Fin 2 => bigSep Finset.univ fun j : Fin 7 => (cred (tallyAt (cell c 1 h j) () N) : sProp 𝕄),
    ← BI.bigSep_univ_two fun h : Fin 2 => bigSep Finset.univ fun j : Fin 7 => (cred (tallyAt (cell c 3 h j) () N) : sProp 𝕄)]
  exact BI.sep_mono (cred_bar c) (BI.sep_mono (cred_kind 1 N c) (cred_kind 3 N c))

/-- A device's part of the schedule and its credit are what its kernel starts from. -/
theorem ghost_intro (c : Dev nD) : iprop(linear (F := F) c ∗ credits (F := F) c) ⊢ Ghost (F := F) c := by
  unfold linear payToks credits Ghost Wait At Wt
  rw [bigSep_cells, bigSep_xfers]
  simp only [bigSep_sep']
  iintro ⟨⟨⟨AB, A0, ⟨A10, A11⟩, A2, A30, A31⟩, TB, T, T'⟩, CB, ⟨C10, C11⟩, C30, C31⟩
  isplitl [TB]; · iexact TB
  isplitl [AB CB]; · isplitl [AB] <;> iassumption
  isplitl [T]; · iexact T
  isplitl [T']; · iexact T'
  isplitl [A0]; · iexact A0
  isplitl [A2]; · iexact A2
  isplitl [A10 A11 C10 C11]
  · isplitl [A10 C10]
    · isplitl [A10] <;> iassumption
    · isplitl [A11] <;> iassumption
  · isplitl [A30 C30]
    · isplitl [A30] <;> iassumption
    · isplitl [A31] <;> iassumption

end Cert.Allreduce
-- ==== Proof.Run.lean ====
/-
The run of the whole program: the kernel on every device inside its region, launched.
-/
module

public import proofs.«01_k».proof.Proof.Deal
public import proofs.«01_k».proof.Proof.Gen.KernelIdeal.Points
public import Idealize.ShloMosaic.Lib.Pipeline.CollectiveSegs

@[expose] public section

noncomputable section

namespace Cert.Allreduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the region around the kernel starts from and ends with -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- A device's part of the schedule, its credit and the levels. -/
def start (c : Dev nD) : sProp 𝕄 := iprop(G' m ρ c ∗ credits (F := F) c ∗ levAts L lv)
/-- Before the kernel: that, and the two landing buffers. -/
def Φ₀ (c : Dev nD) : sProp 𝕄 := iprop(start m ρ c ∗ anyAt (F := F) c (lM 0) ∗ anyAt (F := F) c (lM 1))
/-- After it: the landing buffers, and every counter at zero. -/
def Φ₁ (c : Dev nD) : sProp 𝕄 := iprop((anyAt (F := F) c (lM 0) ∗ anyAt (F := F) c (lM 1)) ∗ semVal (bar c) 0 ∗ Zeros (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xa m ρ c
    | ⟨1, _⟩ => xb m ρ c
    | ⟨2, _⟩ => outC m ρ
  Φ t := match t with
    | ⟨0, _⟩ => Φ₀ m ρ c
    | ⟨_ + 1, _⟩ => Φ₁ (F := F) c
  q _ := fullShare
  owed t := match t with
    | ⟨0, _⟩ => Owed c 0
    | ⟨_ + 1, _⟩ => 0

set_option maxRecDepth 16000 in
def regionPre (c : Dev nD) : sProp 𝕄 :=
  iprop(Φ₀ m ρ c ∗ (dats m ρ 0 c).owesAt () t₀.castSucc
    ∗ (∃ d, holds c aM fullShare ((dats m ρ 0 c).before (0 : Fin 3) t₀ d))
    ∗ (∃ d, holds c bM fullShare ((dats m ρ 0 c).before (1 : Fin 3) t₀ d))
    ∗ (∃ d, holds c oM fullShare ((dats m ρ 0 c).before (2 : Fin 3) t₀ d)))
set_option maxRecDepth 16000 in
def regionPost (c : Dev nD) : sProp 𝕄 :=
  iprop(Φ₁ (F := F) c ∗ (dats m ρ 0 c).owesAt () t₀.succ ∗ holds c aM fullShare (xa m ρ c) ∗ holds c bM fullShare (xb m ρ c)
    ∗ holds c oM fullShare (outC m ρ))

theorem before_a (c : Dev nD) (d) : (dats m ρ 0 c).before (0 : Fin 3) t₀ d = xa m ρ c := by
  unfold Dat.before; rw [if_pos (fetch0_0 t₀)]; rfl
theorem before_b (c : Dev nD) (d) : (dats m ρ 0 c).before (1 : Fin 3) t₀ d = xb m ρ c := by
  unfold Dat.before; rw [if_pos (fetch0_1 t₀)]; rfl

theorem pre_intro (c : Dev nD) : regionPre m ρ c ⊢ iprop(∃ K, BodyPre m ρ K c) := by
  unfold regionPre Φ₀ start G' Dat.owesAt Pipeline.owesWithin BodyPre Cur
  rw [show (dats m ρ 0 c).owed t₀.castSucc = Owed c 0 from rfl]
  simp only [before_a, before_b]
  iintro ⟨⟨⟨⟨%K, HR, HG⟩, HC, HL⟩, H0, H1⟩, ⟨%W, %hW, HO⟩, ⟨%da, HA⟩, ⟨%db, HB⟩, ⟨%d, HX⟩⟩
  iexists K
  isplitl [HR HL HO]
  · isplitl [HR]; · iexact HR
    isplitl [HL]; · iexact HL
    iexists W; iexact HO
  isplitl [HG HC]
  · iapply (ghost_intro c); isplitl [HG] <;> iassumption
  isplitl [HA HB]; · isplitl [HA] <;> iassumption
  isplitl [HX]; · iapply (anyAt_intro c oM _); iexact HX
  isplitl [H0] <;> iassumption

theorem post_elim (K : Dev nD × CI → ℕ) (c : Dev nD) : BodyPost m ρ K c ⊢ regionPost m ρ c := by
  unfold regionPost Φ₁ Dat.owesAt Pipeline.owesWithin BodyPost Cur
  rw [show (dats m ρ 0 c).owed t₀.succ = 0 from rfl, Owed_end]
  iintro ⟨⟨-, -, ⟨%W, HO⟩⟩, ⟨HA, HB⟩, HX, H01, HV, HZ⟩
  isplitl [H01 HV HZ]
  · isplitl [H01]; · iexact H01
    isplitl [HV] <;> iassumption
  isplitl [HO]
  · iexists W
    isplitr; · ipureintro; exact fun _ _ => Or.inl trivial
    iexact HO
  isplitl [HA]; · iexact HA
  isplitl [HB] <;> iassumption

theorem body_run (c : Dev nD) : regionPre m ρ c ⊢ run c (onArgs (cc0_body (F := F))) (fun _ => regionPost m ρ c) := by
  iintro H
  ihave H := (pre_intro m ρ c) $$ H
  icases H with ⟨%K, H⟩
  iapply (show BodyPre m ρ K c ⊢ run c (onArgs (cc0_body (F := F))) (fun _ => regionPost m ρ c) from
    BI.Entails.trans (body_spec m ρ K c) (Idealize.SL.Sem.wp_mono _ _ _ fun _ => post_elim m ρ K c))
  iexact H

set_option maxRecDepth 16000 in
/-- What the region asks of the kernel on device `c`. -/
theorem body_obligation (c : Dev nD) : BodyObligation (dats (F := F) m ρ 0 c) (defs₀ (F := F)) 𝒱₀ () Set.univ := fun t => by
  rw [fin_N t]
  rw [bigSep_W0, bigSep_W0]
  show regionPre m ρ c ⊢ run c (onArgs (cc0_body (F := F))) (fun _ => regionPost m ρ c)
  exact body_run m ρ c

/-! ## The launch's side conditions -/

theorem ownSemFacts : Pipeline.OwnSemFacts cfg0.spec osem :=
  ⟨by decide, fun _ _ h => dsem_inj (SemLoc.dma.inj h), by decide⟩

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => Owed d 0) c ∗ prngReg c (ρ c) ∗ G' m ρ c)
      ⊢ |={Set.univ}=> iprop(start m ρ c ∗ emp) := by
  iintro ⟨-, HL, HC, -, HG⟩
  ihave HC := (creds (F := F) c) $$ HC
  imodintro
  unfold start
  isplitl
  · isplitl [HG]; · iexact HG
    isplitl [HC] <;> iassumption
  · iempintro

/-- The two landing buffers, as the launch hands them over and takes them back. -/
theorem landing_eq (c : Dev nD) : (iprop((∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)) : sProp 𝕄)
    = iprop(anyAt (F := F) c (lM 0) ∗ anyAt (F := F) c (lM 1)) := by
  unfold anyAt
  simp only [holds, owns_whole]
  rfl

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq, landing_eq]
  unfold Φ₀
  iintro ⟨Hs, -, H⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq, own_eq, unscoped_eq, landing_eq]
  unfold Φ₁
  iintro ⟨H, HV, HZ⟩
  isplitl [HV]; · iexact HV
  isplitl [HZ] <;> iassumption

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ 0 (by revert w s; decide)
    · show _ ⊢ MayWait _ _ () 0
      rw [MayWait_zero]; iintro -; iempintro

/-! ## The run -/

/-- Window `w`'s array on device `c` after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On the mesh of eight devices, over any float values and from any memory with every counter zero: every weakly fair
    execution of the program terminates, and at its end every device's arrays hold what the kernel computes and every
    counter is zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun d => Owed d 0) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := deal m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The two argument arrays hold after the run what they held, -/
theorem final_a (c : Dev nD) : finalA m ρ c (0 : Fin 3) = m ((c : Thread nD τ).loc main_arg0) := (dats (F := F) m ρ 0 c).arrAt_in (0 : Fin 3) rfl _
theorem final_b (c : Dev nD) : finalA m ρ c (1 : Fin 3) = m ((c : Thread nD τ).loc main_arg1) := (dats (F := F) m ρ 0 c).arrAt_in (1 : Fin 3) rfl _

end Cert.Allreduce
-- ==== Proof.Value.lean ====
/-
What the kernel computes, over the extended reals: at every place of the result the activation of the product of the
two whole arrays.
-/
module

public import proofs.«01_k».proof.Proof.Run
public import Idealize.ShloMosaic.Lib.Pipeline.ValueKit.Geometry
public import Idealize.ShloMosaic.Lib.Pointwise.Contract
public import Idealize.ShloMosaic.Lib.Pipeline.Value
public import Idealize.ShloMosaic.PureOps.Ideal.Laws
public import Idealize.ShloMosaic.Lib.Pointwise.ElementwiseCore
public import Mathlib.Logic.Equiv.Fin.Basic
public import Mathlib.Algebra.BigOperators.Fin

@[expose] public section

noncomputable section

namespace Cert.Allreduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

local notation "𝕄" => MT nD τ sig Unit (Elt F) ℕ UU ℕ

open scoped BigOperators

/-! ## The result array after the run, over any float values -/

/-- The result array ends holding the finished blocks, on every device. -/
theorem final_out (m : (ℓ : Loc nD τ sig) → Buf (Elt F) ℓ) (ρ : Dev nD → PrngReg) (c : Dev nD) :
    finalA m ρ c (2 : Fin 3) = outC m ρ := by
  refine (dats m ρ 0 c).arrAt_eq_of_after_last (2 : Fin 3) t₀ (by decide +kernel) (outC m ρ) fun j => ?_
  rfl

/-- A device's block of `A` read by the kernel is what its first argument array holds, -/
theorem xa_apply (m : (ℓ : Loc nD τ sig) → Buf (Elt F) ℓ) (ρ : Dev nD → PrngReg) (c : Dev nD) (i : S512x256.Idx) :
    xa m ρ c i = m ((c : Thread nD τ).loc main_arg0) i := by
  show m ((c : Thread nD τ).loc main_arg0) _ = _
  congr 1
  exact Shape.idx_ext₂ (n := ![512, 256]) (show 0 * 512 + 1 * (i 0 : ℕ) = _ by omega) (show 0 * 256 + 1 * (i 1 : ℕ) = _ by omega)
/-- and its block of `B` what the second holds. -/
theorem xb_apply (m : (ℓ : Loc nD τ sig) → Buf (Elt F) ℓ) (ρ : Dev nD → PrngReg) (c : Dev nD) (i : S256x512.Idx) :
    xb m ρ c i = m ((c : Thread nD τ).loc main_arg1) i := by
  show m ((c : Thread nD τ).loc main_arg1) _ = _
  congr 1
  exact Shape.idx_ext₂ (n := ![256, 512]) (show 0 * 256 + 1 * (i 0 : ℕ) = _ by omega) (show 0 * 512 + 1 * (i 1 : ℕ) = _ by omega)

omit [FloatOps F] in
/-- Reading a slot's value as 64x256 gives back the value. -/
theorem cast_up (v : Vec F S64x256 .f32) : shapeCast S64x256 (up v) shapeCasts_S1x64x256_S64x256 = v := by
  funext j
  show v ((Shape.reshapeEquiv _).symm (Shape.reshapeEquiv _ j)) = v j
  rw [Equiv.symm_apply_apply]

/-! ## Over the extended reals -/

/-- The activation at one number: half of it, times one plus the hyperbolic tangent of the cubic, with the four
    constants as the program writes them. -/
def act (z : EReal) : EReal :=
  Ideal.ofBits .f32 0x3F000000#32 * z
    * (Ideal.ofBits .f32 0x3F800000#32
      + Ideal.tanh (Ideal.ofBits .f32 0x3F4C422A#32 * (z + Ideal.ofBits .f32 0x3D372713#32 * z * z * z)))

/-- The shapes of the two whole arrays. -/
abbrev WholeA : Shape := ⟨2, ![512, 2048]⟩
abbrev WholeB : Shape := ⟨2, ![2048, 512]⟩

/-- The product of the whole arrays at one place. -/
def dotAt (A : WholeA.Idx → EReal) (B : WholeB.Idx → EReal) (i : S512x512.Idx) : EReal :=
  ∑ k : Fin 2048, A (ix2 (i 0) k) * B (ix2 k (i 1))

/-- The part of it that one device computes from its two blocks. -/
def termAt (a : S512x256.Idx → EReal) (b : S256x512.Idx → EReal) (i : S512x512.Idx) : EReal :=
  ∑ k : Fin 256, a (ix2 (i 0) k) * b (ix2 k (i 1))

variable (m : (ℓ : Loc nD τ sig) → Buf (Elt Ideal) ℓ) (ρ : Dev nD → PrngReg)

/-- A device's product of one block of rows, at one place. -/
theorem blk_apply (c p : Dev nD) (j : S64x512.Idx) :
    blk m ρ c p j = ∑ k : Fin 256, rowsA m ρ c p (ix2 (j 0) k) * xb m ρ c (ix2 k (j 1)) := by
  have h := Ideal.matmul_apply₁_of dot_S64x256_S256x512_S64x512_1_0_0_1_n_n (a := 1) rfl (K := 256) rfl
    (rowsA m ρ c p) (xb m ρ c) (fun _ => Ideal.ofBits .f32 0x00000000#32) j (fun k => ix2 (j 0) k) (fun k => ix2 k (j 1))
    (fun k => Shape.idx_ext₂ (n := ![64, 256]) rfl rfl) (fun k => Shape.idx_ext₂ (n := ![256, 512]) rfl rfl)
  unfold blk k0_pay1
  rw [shapeCast_self, shapeCast_self]
  refine Eq.trans h ?_
  rw [Ideal.ofBits_zero_f32, zero_add]

/-- Half of a device's product, at the place in the whole result it lies at. -/
theorem part_apply (c p : Dev nD) (h : Fin 2) (j : S64x256.Idx) :
    part m ρ c p h j = termAt (m ((c : Thread nD τ).loc main_arg0)) (m ((c : Thread nD τ).loc main_arg1)) ((halfR p h).emb j) := by
  unfold part cols termAt
  rw [blk_apply]
  refine Finset.sum_congr rfl fun k _ => ?_
  unfold rowsA
  rw [xa_apply, xb_apply]
  congr 2
  · exact Shape.idx_ext₂ (n := ![512, 256]) (show 64 * p.val + 1 * (0 + 1 * (j 0 : ℕ)) = 64 * p.val + 1 * (j 0 : ℕ) by omega)
      (show 0 + 1 * (k : ℕ) = k by omega)

/-- A slot's value at one place. -/
theorem cast_up_apply (v : S64x256.Idx → EReal) (j : S64x256.Idx) :
    shapeCast (α := Ideal .f32) S64x256 (up (F := Ideal) v) shapeCasts_S1x64x256_S64x256 j = v j := congrFun (cast_up (F := Ideal) v) j

/-- What the kernel stores of eight values, the last seven read from slots, at one place. -/
theorem pay_apply (v0 v1 v2 v3 v4 v5 v6 v7 : S64x256.Idx → EReal) (j : S64x256.Idx) :
    k0_pay10 (F := Ideal) (k0_pay9 (F := Ideal) v0 (up (F := Ideal) v1) (up (F := Ideal) v2) (up (F := Ideal) v3)) (up (F := Ideal) v4)
      (up (F := Ideal) v5) (up (F := Ideal) v6) (up (F := Ideal) v7) j
      = act (v0 j + v1 j + v2 j + v3 j + v4 j + v5 j + v6 j + v7 j) := by
  unfold k0_pay10 k0_pay9 act
  simp only [cast_up_apply, shapeCast_self, addf_apply, mulf_apply, tanh_apply, Ideal.addf_def, Ideal.mulf_def, Ideal.tanh_def]
  rfl

/-- The finished value at one place is the activation of the own part and the seven peers' parts, added in turn. -/
theorem fin_apply (q : Dev nD) (h : Fin 2) (j : S64x256.Idx) :
    fin m ρ q h j = act (part m ρ q q h j + part m ρ (peer q 0) q h j + part m ρ (peer q 1) q h j + part m ρ (peer q 2) q h j
      + part m ρ (peer q 3) q h j + part m ρ (peer q 4) q h j + part m ρ (peer q 5) q h j + part m ρ (peer q 6) q h j) := by
  rw [fin, pay_apply]

/-- Summing over the devices, from any one of them on. -/
theorem sum_devs (t : Dev nD → EReal) (q : Dev nD) : ∑ c, t c = t q + t (peer q 0) + t (peer q 1) + t (peer q 2) + t (peer q 3)
    + t (peer q 4) + t (peer q 5) + t (peer q 6) := by
  have e : (Finset.univ : Finset (Dev nD)) = insert q (Finset.univ.image (peer q)) := by revert q; decide
  have hq : q ∉ Finset.univ.image (peer q) := by revert q; decide
  rw [e, Finset.sum_insert hq, Finset.sum_image fun i _ j _ h => peer_inj q h, Fin.sum_univ_seven]
  simp only [add_assoc]

/-- The result at one place: the activation of the sum of all devices' parts there. -/
theorem out_apply (i : S512x512.Idx) :
    outC m ρ i = act (∑ c : Dev nD, termAt (m ((c : Thread nD τ).loc main_arg0)) (m ((c : Thread nD τ).loc main_arg1)) i) := by
  have hi : (halfR (devOf i) (halfOf i)).emb (inOf i) = i := by
    refine Shape.idx_ext₂ (n := ![512, 512]) ?_ ?_
    · show 64 * ((i 0 : ℕ) / 64) + 1 * ((i 0 : ℕ) % 64) = (i 0 : ℕ); omega
    · show 256 * ((i 1 : ℕ) / 256) + 1 * ((i 1 : ℕ) % 256) = (i 1 : ℕ); omega
  rw [sum_devs _ (devOf i)]
  unfold outC
  rw [fin_apply]
  simp only [part_apply, hi]

/-- The devices' parts of the product add up to the product of the whole arrays. -/
theorem sum_terms (A : WholeA.Idx → EReal) (B : WholeB.Idx → EReal) (a : Dev nD → S512x256.Idx → EReal) (b : Dev nD → S256x512.Idx → EReal)
    (ha : ∀ c, a c = Layout.block ⟨2, ![512, 256]⟩ ⟨2, ![512, 2048]⟩ 1 8 c A)
    (hb : ∀ c, b c = Layout.block ⟨2, ![256, 512]⟩ ⟨2, ![2048, 512]⟩ 0 8 c B) (i : S512x512.Idx) :
    ∑ c : Dev nD, termAt (a c) (b c) i = dotAt A B i := by
  unfold termAt dotAt
  rw [← Fintype.sum_prod_type' (f := fun (c : Fin 8) (k : Fin 256) => a c (ix2 (i 0) k) * b c (ix2 k (i 1)))]
  refine Fintype.sum_equiv (finProdFinEquiv (m := 8) (n := 256)) _ _ fun x => ?_
  rw [ha, hb]
  simp only [Layout.block_apply]
  congr 2
  · exact Shape.idx_ext₂ (n := ![512, 2048]) rfl (show (x.1 : ℕ) * 256 + (x.2 : ℕ) = (x.2 : ℕ) + 256 * (x.1 : ℕ) by omega)
  · exact Shape.idx_ext₂ (n := ![2048, 512]) (show (x.1 : ℕ) * 256 + (x.2 : ℕ) = (x.2 : ℕ) + 256 * (x.1 : ℕ) by omega) rfl

end Cert.Allreduce
-- ==== Proof.lean ====
/-
The five claims, from the run of the kernel's program (Proof/Run.lean), its value (Proof/Value.lean) and the run of
the reference.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem

/-- Over any float values: the kernel's program runs, its arguments end unchanged and every counter ends at zero. -/
theorem frame {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1))
        ∧ r.2.sem = fun _ => 0) :=
  (θ_run Cert.KernelIdeal.defs _ _).mono
    (fun _ h => ⟨fun c => ⟨(h.1 c (0 : Fin 3)).trans (Cert.Allreduce.final_a m ρ c), (h.1 c (1 : Fin 3)).trans (Cert.Allreduce.final_b m ρ c)⟩, h.2⟩)
    (Cert.Allreduce.run_main m ρ)

/-- The two programs' body tables are one: their bodies have the same text. -/
theorem bodies_eq {F : FTy → Type} [FloatOps F] :
    Cert.Kernel.defs₀ (F := F) = Cert.KernelIdeal.defs₀ (F := F) := by
  refine congrArg Defs.onTc (funext fun l => ?_)
  match l with
  | 0 => exact funext fun a => rfl

/-- So are the tables with their pipelines. -/
theorem tables_eq {F : FTy → Type} [FloatOps F] :
    Cert.Kernel.defs (F := F) = Cert.KernelIdeal.defs (F := F) :=
  congrArg (Pipeline.defs Cert.KernelIdeal.pcfgs) bodies_eq

/-- The program as printed, over the machine's floats: its text is the one the run is proved of. -/
theorem frame_kernel : Cert.quiescent_Kernel := fun m ρ _ => by
  have h := frame (F := Bits) m ρ
  rw [← tables_eq] at h
  exact h

/-- The same over the extended reals. -/
theorem frame_kernelIdeal : Cert.quiescent_KernelIdeal := fun m ρ _ => frame (F := Ideal) m ρ

/-- The reference runs, its arguments end unchanged, and it has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's product at one place is the sum over the contracted axis. -/
theorem dot_ref (A : Cert.Allreduce.WholeA.Idx → EReal) (B : Cert.Allreduce.WholeB.Idx → EReal) (i : Cert.ReferenceIdeal.S512x512.Idx) :
    Host.dotGeneral (F := Ideal) (φ₁ := .f32) (φ₂ := .f32) Cert.ReferenceIdeal.dot_S512x2048_S2048x512_S512x512_1_0_0_1_n_n none A B i
      = Cert.Allreduce.dotAt A B i := by
  have h := Ideal.matmul_apply₁_of Cert.ReferenceIdeal.dot_S512x2048_S2048x512_S512x512_1_0_0_1_n_n (a := 1) rfl (K := 2048) rfl
    A B (fun _ => 0) i (fun k => ix2 (i 0) k) (fun k => ix2 k (i 1))
    (fun k => Shape.idx_ext₂ (n := ![512, 2048]) rfl rfl) (fun k => Shape.idx_ext₂ (n := ![2048, 512]) rfl rfl)
  exact Eq.trans h (zero_add _)

/-- Over the extended reals, from arguments that are the devices' blocks of the reference's: every device's result is the
    reference's result, at every place. -/
theorem algebraic : Cert.algebraic_KernelIdeal_ReferenceIdeal := fun m ρ m' ρ' _ hm =>
  ⟨fun i => Cert.Allreduce.act (Cert.Allreduce.dotAt (m' (((0 : Dev Cert.ReferenceIdeal.nD).tc : Thread _ Cert.ReferenceIdeal.τ).loc Cert.ReferenceIdeal.main_arg0))
      (m' (((0 : Dev Cert.ReferenceIdeal.nD).tc : Thread _ Cert.ReferenceIdeal.τ).loc Cert.ReferenceIdeal.main_arg1)) i),
    (θ_run Cert.KernelIdeal.defs _ _).mono
      (fun _ h c => ⟨((h.1 c (2 : Fin 3)).trans (Cert.Allreduce.final_out m ρ c)).trans (funext fun i => by
          rw [Cert.Allreduce.out_apply]
          exact congrArg Cert.Allreduce.act (Cert.Allreduce.sum_terms _ _ _ _ (fun c => (hm c).1) (fun c => (hm c).2) i)),
        (h.1 c (0 : Fin 3)).trans (Cert.Allreduce.final_a m ρ c), (h.1 c (1 : Fin 3)).trans (Cert.Allreduce.final_b m ρ c)⟩)
      (Cert.Allreduce.run_main (F := Ideal) m ρ),
    (θ_run Cert.ReferenceIdeal.defs _ _).mono
      (fun _ h => ⟨(h 0).1.trans (funext fun i => congrArg Cert.Allreduce.act (dot_ref _ _ i)), (h 0).2⟩)
      (Cert.ReferenceIdeal.Value.run (F := Ideal) m' ρ')⟩

/-- All the claims. -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
